-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32768 : Shape := ⟨2, ![128, 32768]⟩
abbrev S32x16 : Shape := ⟨2, ![32, 16]⟩
abbrev S16384 : Shape := ⟨1, ![16384]⟩
abbrev S16 : Shape := ⟨1, ![16]⟩
abbrev S_ : Shape := ⟨0, ![]⟩
abbrev S1x16384 : Shape := ⟨2, ![1, 16384]⟩
abbrev S1x16 : Shape := ⟨2, ![1, 16]⟩
abbrev S16x128 : Shape := ⟨2, ![16, 128]⟩
abbrev S16x16384 : Shape := ⟨2, ![16, 16384]⟩
abbrev S1x1 : Shape := ⟨2, ![1, 1]⟩
abbrev S1x32x16 : Shape := ⟨3, ![1, 32, 16]⟩
abbrev S1 : Shape := ⟨1, ![1]⟩
abbrev S1x1x1 : Shape := ⟨3, ![1, 1, 1]⟩
abbrev S1x16x128 : Shape := ⟨3, ![1, 16, 128]⟩

abbrev nBuf : Table → Nat
  | .hbm => 7
  | .local .tc .vmem => 11
  | .local .scVector .vmem => 5
  | _ => 0

abbrev bufTy : (tb : Table) → Fin (nBuf tb) → BufTy
  | .hbm, ⟨0, _⟩ => ⟨S128x32768, .f32⟩
  | .hbm, ⟨1, _⟩ => ⟨S32x16, .f32⟩
  | .hbm, ⟨2, _⟩ => ⟨S32x16, .i32⟩
  | .hbm, ⟨3, _⟩ => ⟨S16x128, .f32⟩
  | .hbm, ⟨4, _⟩ => ⟨S16x128, .i32⟩
  | .hbm, ⟨5, _⟩ => ⟨S1x1, .i32⟩
  | .hbm, ⟨6, _⟩ => ⟨S_, .i32⟩
  | .local .tc .vmem, ⟨0, _⟩ => ⟨S16x16384, .f32⟩
  | .local .tc .vmem, ⟨1, _⟩ => ⟨S16x16384, .f32⟩
  | .local .tc .vmem, ⟨2, _⟩ => ⟨S16x128, .f32⟩
  | .local .tc .vmem, ⟨3, _⟩ => ⟨S16x128, .i32⟩
  | .local .tc .vmem, ⟨4, _⟩ => ⟨S16x128, .f32⟩
  | .local .tc .vmem, ⟨5, _⟩ => ⟨S16x128, .i32⟩
  | .local .tc .vmem, ⟨6, _⟩ => ⟨S32x16, .f32⟩
  | .local .tc .vmem, ⟨7, _⟩ => ⟨S32x16, .i32⟩
  | .local .tc .vmem, ⟨8, _⟩ => ⟨S16x128, .f32⟩
  | .local .tc .vmem, ⟨9, _⟩ => ⟨S16x128, .i32⟩
  | .local .tc .vmem, ⟨10, _⟩ => ⟨S1x1, .i32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16, .f32⟩
  | .local .scVector .vmem, ⟨4, _⟩ => ⟨S16, .i32⟩
  | _, _ => ⟨S128x32768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_scratch0 : Ref sig .tc := ⟨.vmem, 4, rfl⟩
abbrev cc1_scratch1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem1_0 : DmaSem sig := 10
abbrev cc2_sem2_0 : DmaSem sig := 11
abbrev cc2_sem3_0 : DmaSem sig := 12
abbrev cc2_sem4_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32 : BitVec 32 := 3#32
  let v3 : BitVec 32 := Scalar.muli v1 c3_i32
  let c0_i32 : BitVec 32 := 0#32
  let v4 : BitVec 32 := Scalar.addi v3 c0_i32
  let c2_i32_5 : BitVec 32 := 2#32
  let c0_i32_6 : BitVec 32 := 0#32
  let v22 : BitVec 1 := Scalar.cmpi .eq c2_i32_5 c0_i32_6
  let c1_i32_7 : BitVec 32 := 1#32
  let v23 : BitVec 32 := Scalar.select v22 c1_i32_7 c2_i32_5
  let v24 : BitVec 32 := Scalar.remsi v4 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c16384_i32 : BitVec 32 := 16384#32
  let v32 : BitVec 32 := Scalar.muli v31 c16384_i32
  v32
def k0_off1 (i : grid0.Coords) (c0_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32 : BitVec 32 := 3#32
  let v3 : BitVec 32 := Scalar.muli v1 c3_i32
  let v4 : BitVec 32 := Scalar.addi v3 c0_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v4 c2_i32
  let c0_i32_4 : BitVec 32 := 0#32
  let v18 : BitVec 1 := Scalar.cmpi .ne v17 c0_i32_4
  let v19 : BitVec 1 := Scalar.andi v16 v18
  let v5 : BitVec 32 := Scalar.divsi v4 c2_i32
  let c1_i32 : BitVec 32 := 1#32
  let v20 : BitVec 32 := Scalar.subi v5 c1_i32
  let v21 : BitVec 32 := Scalar.select v19 v20 v5
  let c2_i32_5 : BitVec 32 := 2#32
  let c0_i32_6 : BitVec 32 := 0#32
  let v22 : BitVec 1 := Scalar.cmpi .eq c2_i32_5 c0_i32_6
  let c1_i32_7 : BitVec 32 := 1#32
  let v23 : BitVec 32 := Scalar.select v22 c1_i32_7 c2_i32_5
  let v24 : BitVec 32 := Scalar.remsi v4 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c16384_i32 : BitVec 32 := 16384#32
  let v32 : BitVec 32 := Scalar.muli v31 c16384_i32
  let v33 : BitVec 32 := v32
  ![v21.toNat, v33.toNat]
def k0_mult2 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_11 : BitVec 32 := 3#32
  let v38 : BitVec 32 := Scalar.muli v1 c3_i32_11
  let c1_i32_12 : BitVec 32 := 1#32
  let v39 : BitVec 32 := Scalar.addi v38 c1_i32_12
  let c2_i32_20 : BitVec 32 := 2#32
  let c0_i32_21 : BitVec 32 := 0#32
  let v57 : BitVec 1 := Scalar.cmpi .eq c2_i32_20 c0_i32_21
  let c1_i32_22 : BitVec 32 := 1#32
  let v58 : BitVec 32 := Scalar.select v57 c1_i32_22 c2_i32_20
  let v59 : BitVec 32 := Scalar.remsi v39 v58
  let c0_i32_24 : BitVec 32 := 0#32
  let v61 : BitVec 1 := Scalar.cmpi .slt v59 c0_i32_24
  let c0_i32_25 : BitVec 32 := 0#32
  let v62 : BitVec 1 := Scalar.cmpi .slt v58 c0_i32_25
  let v63 : BitVec 1 := Scalar.xori v61 v62
  let c0_i32_23 : BitVec 32 := 0#32
  let v60 : BitVec 1 := Scalar.cmpi .ne v59 c0_i32_23
  let v64 : BitVec 1 := Scalar.andi v63 v60
  let v65 : BitVec 32 := Scalar.addi v59 v58
  let v66 : BitVec 32 := Scalar.select v64 v65 v59
  let c16384_i32_26 : BitVec 32 := 16384#32
  let v67 : BitVec 32 := Scalar.muli v66 c16384_i32_26
  v67
def k0_mult3 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_27 : BitVec 32 := 3#32
  let v73 : BitVec 32 := Scalar.muli v1 c3_i32_27
  let c2_i32_28 : BitVec 32 := 2#32
  let v74 : BitVec 32 := Scalar.addi v73 c2_i32_28
  let c2_i32_36 : BitVec 32 := 2#32
  let c0_i32_37 : BitVec 32 := 0#32
  let v92 : BitVec 1 := Scalar.cmpi .eq c2_i32_36 c0_i32_37
  let c1_i32_38 : BitVec 32 := 1#32
  let v93 : BitVec 32 := Scalar.select v92 c1_i32_38 c2_i32_36
  let v94 : BitVec 32 := Scalar.remsi v74 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c16384_i32_42 : BitVec 32 := 16384#32
  let v102 : BitVec 32 := Scalar.muli v101 c16384_i32_42
  v102
@[reducible] def k0_t1_loop : Scf.Loop 32 :=
  let c0_i32_44 : BitVec 32 := 0#32
  let c128_i32 : BitVec 32 := 128#32
  let v115 : BitVec 32 := Scalar.addi c0_i32_44 c128_i32
  let c1_i32_45 : BitVec 32 := 1#32
  ⟨c0_i32_44, v115, c1_i32_45⟩
def k0_off2 (k0_t1 : Fin k0_t1_loop.trips) (c0_i32_57 : BitVec 32) : Fin 1 → Nat :=
  let c0_i32_44 : BitVec 32 := 0#32
  let c1_i32_45 : BitVec 32 := 1#32
  let arg13 : BitVec 32 := Scf.iv c0_i32_44 c1_i32_45 k0_t1
  let c8_i32 : BitVec 32 := 8#32
  let v140 : BitVec 32 := Scalar.muli arg13 c8_i32
  let v141 : BitVec 32 := Scalar.addi v140 c0_i32_57
  let c16_i32_58 : BitVec 32 := 16#32
  let v142 : BitVec 32 := Scalar.muli v141 c16_i32_58
  let v143 : Index := Scalar.indexCast v142
  ![v143.toNat]
@[reducible] def k0_t2_loop : Scf.Loop 32 :=
  let c0_i32_47 : BitVec 32 := 0#32
  let c128_i32_48 : BitVec 32 := 128#32
  let v121 : BitVec 32 := Scalar.addi c0_i32_47 c128_i32_48
  let c1_i32_49 : BitVec 32 := 1#32
  ⟨c0_i32_47, v121, c1_i32_49⟩
def k0_off3 (k0_t2 : Fin k0_t2_loop.trips) (c0_i32_57 : BitVec 32) : Fin 1 → Nat :=
  let c0_i32_47 : BitVec 32 := 0#32
  let c1_i32_49 : BitVec 32 := 1#32
  let arg13 : BitVec 32 := Scf.iv c0_i32_47 c1_i32_49 k0_t2
  let c8_i32 : BitVec 32 := 8#32
  let v140 : BitVec 32 := Scalar.muli arg13 c8_i32
  let v141 : BitVec 32 := Scalar.addi v140 c0_i32_57
  let c16_i32_58 : BitVec 32 := 16#32
  let v142 : BitVec 32 := Scalar.muli v141 c16_i32_58
  let v143 : Index := Scalar.indexCast v142
  ![v143.toNat]
@[reducible] def k0_t3_loop : Scf.Loop 32 :=
  let c0_i32_51 : BitVec 32 := 0#32
  let c128_i32_52 : BitVec 32 := 128#32
  let v127 : BitVec 32 := Scalar.addi c0_i32_51 c128_i32_52
  let c1_i32_53 : BitVec 32 := 1#32
  ⟨c0_i32_51, v127, c1_i32_53⟩
def k0_off4 (k0_t3 : Fin k0_t3_loop.trips) (c0_i32_57 : BitVec 32) : Fin 1 → Nat :=
  let c0_i32_51 : BitVec 32 := 0#32
  let c1_i32_53 : BitVec 32 := 1#32
  let arg13 : BitVec 32 := Scf.iv c0_i32_51 c1_i32_53 k0_t3
  let c8_i32 : BitVec 32 := 8#32
  let v140 : BitVec 32 := Scalar.muli arg13 c8_i32
  let v141 : BitVec 32 := Scalar.addi v140 c0_i32_57
  let c16_i32_58 : BitVec 32 := 16#32
  let v142 : BitVec 32 := Scalar.muli v141 c16_i32_58
  let v143 : Index := Scalar.indexCast v142
  ![v143.toNat]
def k0_off5 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_57_r0 : BitVec 32 := 0#32
  ![v1.toNat, 0]
abbrev grid1 : Pipeline.Grid := ⟨2, ![5, 2], ![false, false]⟩

def k1_cond2 (i : grid1.Coords) : BitVec 1 :=
  let arg0 : BitVec 32 := BitVec.ofNat 32 (i 0).val
  let c4_i32 : BitVec 32 := 4#32
  let v792 : BitVec 1 := Scalar.cmpi .eq arg0 c4_i32
  let arg1 : BitVec 32 := BitVec.ofNat 32 (i 1).val
  let c1_i32 : BitVec 32 := 1#32
  let v793 : BitVec 1 := Scalar.cmpi .eq arg1 c1_i32
  let v794 : BitVec 1 := Scalar.andi v792 v793
  let v795 : BitVec 32 := Scalar.extui v794
  let c0_i32_139 : BitVec 32 := 0#32
  let v796 : BitVec 1 := Scalar.cmpi .ne v795 c0_i32_139
  v796

def cc1_transform_0 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  ![v0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S16x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := .none

abbrev stage2_0 : Fin 1 → Memref sig .tc .vmem S32x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x16 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16x128 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x32768 : Shape := ⟨2, ![128, 32768]⟩
abbrev S4194304 : Shape := ⟨1, ![4194304]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S4194304, .f32⟩
  | .hbm, ⟨2, _⟩ => ⟨S4194304, .i32⟩
  | .hbm, ⟨3, _⟩ => ⟨S_, .f32⟩
  | .hbm, ⟨4, _⟩ => ⟨S_, .i32⟩
  | .hbm, ⟨5, _⟩ => ⟨S_, .f32⟩
  | .hbm, ⟨6, _⟩ => ⟨S_, .i32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== Proof.TileBase.lean ====
/-
  The program as the launch theorem sees it, the resource algebra of the whole proof, and the
  SparseCore kernel's arrays and scratch as one vector subcore names them.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' factor. -/
abbrev EH : Emb UH (MT nD τ sig (HIx 1) (Elt F) ℕ UU ℕ) := embL
/-- The pipelines' factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

/-! ## The arrays and a vector subcore's scratch -/

/-- The array `x`, and the two arrays the SparseCore kernel writes, as locations of device `d`. -/
abbrev xLoc (d : Dev nD) : Loc nD τ sig := (SparseCore.T d).loc main_arg0
abbrev vLoc (d : Dev nD) : Loc nD τ sig := (SparseCore.T d).loc main_v0_0
abbrev iLoc (d : Dev nD) : Loc nD τ sig := (SparseCore.T d).loc main_v0_1

abbrev xV : Memref sig .scVector .hbm S128x32768 .f32 := Memref.whole main_arg0_scv
abbrev vV : Memref sig .scVector .hbm S32x16 .f32 := Memref.whole main_v0_0_scv
abbrev iV : Memref sig .scVector .hbm S32x16 .i32 := Memref.whole main_v0_1_scv
/-- The three piece buffers and the two output rows of a vector subcore. -/
abbrev b0 : Memref sig .scVector .vmem S16384 .f32 := Memref.whole cc0_scratch0
abbrev b1 : Memref sig .scVector .vmem S16384 .f32 := Memref.whole cc0_scratch1
abbrev b2 : Memref sig .scVector .vmem S16384 .f32 := Memref.whole cc0_scratch2
abbrev sv : Memref sig .scVector .vmem S16 .f32 := Memref.whole cc0_scratch3
abbrev si : Memref sig .scVector .vmem S16 .i32 := Memref.whole cc0_scratch4

/-- The SparseCore and the subcore at a point of the kernel's grid; the point's thread. -/
abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- Piece `r` of `x` as the subcore slices it, and its row of each output. -/
abbrev pieceRect (L : grid0.Coords) (r : Fin 3) : Rect S128x32768 :=
  Rect.unit (s := S128x32768) (k0_off1 L (BitVec.ofNat 32 r.val)) S1x16384.size (k0_off1_inb L r)
abbrev piece (L : grid0.Coords) (r : Fin 3) : Memref sig .scVector .hbm S16384 .f32 :=
  (xV.slice (pieceRect L r) (fun _ => rfl)).squeeze S16384 squeezes_S1x16384_S16384
abbrev rowRect (L : grid0.Coords) : Rect S32x16 := Rect.unit (s := S32x16) (k0_off5 L) S1x16.size (k0_off5_inb L)
abbrev vRow (L : grid0.Coords) : Memref sig .scVector .hbm S16 .f32 := (vV.slice (rowRect L) (fun _ => rfl)).squeeze S16 squeezes_S1x16_S16
abbrev iRow (L : grid0.Coords) : Memref sig .scVector .hbm S16 .i32 := (iV.slice (rowRect L) (fun _ => rfl)).squeeze S16 squeezes_S1x16_S16

end Cert.KernelIdeal.Pf
-- ==== Proof.TileVal.lean ====
/-
  What one vector subcore computes: from its three pieces of `x`, the sixteen lanes' maxima and the
  flat indices at which they are first attained.
-/
module

public import proofs.«01_k».proof.Proof.TileBase

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The sixteen lanes of piece buffer 1 that step `u` of trip `k` loads. -/
def ld1 (B : S16384.Idx → Elt F .f32) (k : Fin k0_t1_loop.trips) (u : Fin 8) : Vec F S16 .f32 :=
  b0.view.readAt (Elt F) (Rect.unit (s := S16384) (k0_off2 k (BitVec.ofNat 32 u.val)) S16.size (k0_off2_inb k u)).toLoadRect B

/-- Trip `k` over piece buffer 1: eight steps on the carried maxima and step numbers. -/
def trip1 (B : S16384.Idx → Elt F .f32) (k : Fin k0_t1_loop.trips) (a : FVec F S16 .f32 × IVec S16 32) : FVec F S16 .f32 × IVec S16 32 :=
  let p := k0_pay6 a.1 (ld1 B k 0) (ld1 B k 1) (ld1 B k 2)
  let j := k0_pay7 0#32 1#32 k a.1 a.2 (ld1 B k 0) (ld1 B k 1) (ld1 B k 2)
  let p' := k0_pay13 p (ld1 B k 3) (ld1 B k 4) (ld1 B k 5)
  let j' := k0_pay14 (Scf.iv 0#32 1#32 k) p j (ld1 B k 3) (ld1 B k 4) (ld1 B k 5)
  (k0_pay48 p' (ld1 B k 6) (ld1 B k 7), k0_pay49 (Scf.iv 0#32 1#32 k) p' j' (ld1 B k 6) (ld1 B k 7))

/-- The carried values before trip `n`. -/
def iter1 (B : S16384.Idx → Elt F .f32) (a : FVec F S16 .f32 × IVec S16 32) : ℕ → FVec F S16 .f32 × IVec S16 32
  | 0 => a
  | n + 1 => if h : n < k0_t1_loop.trips then trip1 B ⟨n, h⟩ (iter1 B a n) else iter1 B a n

theorem iter1_succ (B : S16384.Idx → Elt F .f32) (a : FVec F S16 .f32 × IVec S16 32) (k : Fin k0_t1_loop.trips) :
    iter1 B a (k.val + 1) = trip1 B k (iter1 B a k.val) := dif_pos k.isLt

/-- The sixteen lanes of piece buffer 2 that step `u` of trip `k` loads. -/
def ld2 (B : S16384.Idx → Elt F .f32) (k : Fin k0_t2_loop.trips) (u : Fin 8) : Vec F S16 .f32 :=
  b1.view.readAt (Elt F) (Rect.unit (s := S16384) (k0_off3 k (BitVec.ofNat 32 u.val)) S16.size (k0_off3_inb k u)).toLoadRect B

/-- Trip `k` over piece buffer 2: eight steps on the carried maxima and step numbers. -/
def trip2 (B : S16384.Idx → Elt F .f32) (k : Fin k0_t2_loop.trips) (a : FVec F S16 .f32 × IVec S16 32) : FVec F S16 .f32 × IVec S16 32 :=
  let p := k0_pay20 a.1 (ld2 B k 0) (ld2 B k 1) (ld2 B k 2)
  let j := k0_pay21 0#32 1#32 k a.1 a.2 (ld2 B k 0) (ld2 B k 1) (ld2 B k 2)
  let p' := k0_pay27 p (ld2 B k 3) (ld2 B k 4) (ld2 B k 5)
  let j' := k0_pay28 (Scf.iv 0#32 1#32 k) p j (ld2 B k 3) (ld2 B k 4) (ld2 B k 5)
  (k0_pay53 p' (ld2 B k 6) (ld2 B k 7), k0_pay54 (Scf.iv 0#32 1#32 k) p' j' (ld2 B k 6) (ld2 B k 7))

/-- The carried values before trip `n`. -/
def iter2 (B : S16384.Idx → Elt F .f32) (a : FVec F S16 .f32 × IVec S16 32) : ℕ → FVec F S16 .f32 × IVec S16 32
  | 0 => a
  | n + 1 => if h : n < k0_t2_loop.trips then trip2 B ⟨n, h⟩ (iter2 B a n) else iter2 B a n

theorem iter2_succ (B : S16384.Idx → Elt F .f32) (a : FVec F S16 .f32 × IVec S16 32) (k : Fin k0_t2_loop.trips) :
    iter2 B a (k.val + 1) = trip2 B k (iter2 B a k.val) := dif_pos k.isLt

/-- The sixteen lanes of piece buffer 3 that step `u` of trip `k` loads. -/
def ld3 (B : S16384.Idx → Elt F .f32) (k : Fin k0_t3_loop.trips) (u : Fin 8) : Vec F S16 .f32 :=
  b2.view.readAt (Elt F) (Rect.unit (s := S16384) (k0_off4 k (BitVec.ofNat 32 u.val)) S16.size (k0_off4_inb k u)).toLoadRect B

/-- Trip `k` over piece buffer 3: eight steps on the carried maxima and step numbers. -/
def trip3 (B : S16384.Idx → Elt F .f32) (k : Fin k0_t3_loop.trips) (a : FVec F S16 .f32 × IVec S16 32) : FVec F S16 .f32 × IVec S16 32 :=
  let p := k0_pay34 a.1 (ld3 B k 0) (ld3 B k 1) (ld3 B k 2)
  let j := k0_pay35 0#32 1#32 k a.1 a.2 (ld3 B k 0) (ld3 B k 1) (ld3 B k 2)
  let p' := k0_pay41 p (ld3 B k 3) (ld3 B k 4) (ld3 B k 5)
  let j' := k0_pay42 (Scf.iv 0#32 1#32 k) p j (ld3 B k 3) (ld3 B k 4) (ld3 B k 5)
  (k0_pay58 p' (ld3 B k 6) (ld3 B k 7), k0_pay59 (Scf.iv 0#32 1#32 k) p' j' (ld3 B k 6) (ld3 B k 7))

/-- The carried values before trip `n`. -/
def iter3 (B : S16384.Idx → Elt F .f32) (a : FVec F S16 .f32 × IVec S16 32) : ℕ → FVec F S16 .f32 × IVec S16 32
  | 0 => a
  | n + 1 => if h : n < k0_t3_loop.trips then trip3 B ⟨n, h⟩ (iter3 B a n) else iter3 B a n

theorem iter3_succ (B : S16384.Idx → Elt F .f32) (a : FVec F S16 .f32 × IVec S16 32) (k : Fin k0_t3_loop.trips) :
    iter3 B a (k.val + 1) = trip3 B k (iter3 B a k.val) := dif_pos k.isLt

/-- Piece `r` of `x` at a point of the grid: 16384 consecutive elements. -/
def pieceC (X : S128x32768.Idx → Elt F .f32) (L : grid0.Coords) (r : Fin 3) : S16384.Idx → Elt F .f32 :=
  (piece L r).view.read (Elt F) X

/-- The carried values after the first, the second and the third piece. -/
def acc1 (X : S128x32768.Idx → Elt F .f32) (L : grid0.Coords) : FVec F S16 .f32 × IVec S16 32 :=
  iter1 (pieceC X L 0) (k0_pay43, k0_pay44) k0_t1_loop.trips
def acc2 (X : S128x32768.Idx → Elt F .f32) (L : grid0.Coords) : FVec F S16 .f32 × IVec S16 32 :=
  iter2 (pieceC X L 1) (acc1 X L) k0_t2_loop.trips
def acc3 (X : S128x32768.Idx → Elt F .f32) (L : grid0.Coords) : FVec F S16 .f32 × IVec S16 32 :=
  iter3 (pieceC X L 2) (acc2 X L) k0_t3_loop.trips

/-- The subcore's first flat index, as the kernel computes it. -/
def baseW (L : grid0.Coords) : BitVec 32 :=
  Scalar.muli (Scalar.addi (Scalar.muli (BitVec.ofNat 32 (L 0).val) 16#32) (BitVec.ofNat 32 (L 1).val)) 49152#32

/-- The rows the subcore writes: the maxima, and their flat indices. -/
def tileV (X : S128x32768.Idx → Elt F .f32) (L : grid0.Coords) : FVec F S16 .f32 := k0_pay60 (acc3 X L).1
def tileI (X : S128x32768.Idx → Elt F .f32) (L : grid0.Coords) : IVec S16 32 := k0_pay61 (baseW L) (iota .scVector S16 32 [0] iota_S16_d0_w32_scVector) (acc3 X L).2

end Cert.KernelIdeal.Pf
-- ==== Proof.Places.lean ====
/-
  Where the SparseCore kernel's slices lie: a subcore's row of each output is row `16·c + s`, its piece
  `r` is the half row numbered `3·(16·c + s) + r`, and trip `k`'s step `u` loads lanes from `128·k + 16·u`.
-/
module

public import proofs.«01_k».proof.Proof.TileVal

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A point of the kernel's grid from its two coordinates. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (L : grid0.Coords) : coordsV (L 0) (L 1) = L := by
  funext a; match a with
  | 0 => rfl
  | 1 => rfl

theorem L0_lt (L : grid0.Coords) : (L 0).val < 2 := (L 0).isLt
theorem L1_lt (L : grid0.Coords) : (L 1).val < 16 := (L 1).isLt

/-- The row a subcore writes. -/
def wid (L : grid0.Coords) : Fin 32 := ⟨16 * (L 0).val + (L 1).val, by have := L0_lt L; have := L1_lt L; omega⟩
/-- The subcore that writes row `r`. -/
def ptOf (r : Fin 32) : grid0.Coords := coordsV ⟨r.val / 16, by show _ < 2; omega⟩ ⟨r.val % 16, by show _ < 16; omega⟩

theorem ptOf_wid (L : grid0.Coords) : ptOf (wid L) = L := by
  have h0 := L0_lt L; have h1 := L1_lt L
  have e0 : (⟨(wid L).val / 16, by show _ < 2; have := (wid L).isLt; omega⟩ : Fin (grid0.bound 0)) = L 0 := Fin.ext (by simp only [wid]; omega)
  have e1 : (⟨(wid L).val % 16, by show _ < 16; omega⟩ : Fin (grid0.bound 1)) = L 1 := Fin.ext (by simp only [wid]; omega)
  unfold ptOf; rw [e0, e1, coordsV_eta]

theorem wid_ptOf (r : Fin 32) : wid (ptOf r) = r := Fin.ext (by
  show 16 * (r.val / 16) + r.val % 16 = r.val; omega)

theorem emb_vRow (L : grid0.Coords) (j : S16.Idx) : (vRow L).view.emb j = (Shape.pair (d := ![32, 16]) (wid L) (j 0) : S32x16.Idx) := by
  show (rowRect L).emb (Shape.reshapeEquiv _ j) = _
  rw [Shape.reshapeEquiv_cons_one]
  funext a; apply Fin.ext
  rw [Rect.emb_apply]
  show k0_off5 L a + 1 * _ = _
  rw [k0_off5_eq]
  match a with
  | 0 => show 16 * (L 0).val + (L 1).val + 1 * 0 = _; simp [Shape.pair, wid]
  | 1 => show 0 + 1 * (j 0).val = _; simp [Shape.pair]

theorem emb_iRow (L : grid0.Coords) (j : S16.Idx) : (iRow L).view.emb j = (Shape.pair (d := ![32, 16]) (wid L) (j 0) : S32x16.Idx) := emb_vRow L j

/-- A one-coordinate index. -/
def ix1 {n : Nat} (k : Fin n) : (⟨1, ![n]⟩ : Shape).Idx := fun a => ⟨k.val, by rw [Subsingleton.elim a 0]; exact k.isLt⟩
theorem ix1_eta {n : Nat} (j : (⟨1, ![n]⟩ : Shape).Idx) : ix1 (j 0) = j := by
  funext a; rw [Subsingleton.elim a 0]; rfl

/-- The two output arrays of the whole launch, row by row. -/
def vOut (X : S128x32768.Idx → Elt F .f32) : S32x16.Idx → Elt F .f32 := fun i => tileV X (ptOf (i 0)) (ix1 (i 1))
def iOut (X : S128x32768.Idx → Elt F .f32) : S32x16.Idx → Elt F .i32 := fun i => tileI X (ptOf (i 0)) (ix1 (i 1))

theorem vOut_emb (X : S128x32768.Idx → Elt F .f32) (L : grid0.Coords) (j : S16.Idx) : vOut X ((vRow L).view.emb j) = tileV X L j := by
  rw [emb_vRow]; unfold vOut
  show tileV X (ptOf (wid L)) (ix1 (j 0)) = _
  rw [ptOf_wid]; exact congrArg (tileV X L) (ix1_eta j)
theorem iOut_emb (X : S128x32768.Idx → Elt F .f32) (L : grid0.Coords) (j : S16.Idx) : iOut X ((iRow L).view.emb j) = tileI X L j := by
  rw [emb_iRow]; unfold iOut
  show tileI X (ptOf (wid L)) (ix1 (j 0)) = _
  rw [ptOf_wid]; exact congrArg (tileI X L) (ix1_eta j)

theorem k0_off1_eq : ∀ (L : grid0.Coords) (r : Fin 3), k0_off1 L (BitVec.ofNat 32 r.val)
    = ![(48 * (L 0).val + 3 * (L 1).val + r.val) / 2, (48 * (L 0).val + 3 * (L 1).val + r.val) % 2 * 16384] := by decide +kernel

/-- Piece `r`, element by element: 16384 consecutive elements of the flattened `x`. -/
theorem pieceC_apply (X : S128x32768.Idx → Elt F .f32) (L : grid0.Coords) (r : Fin 3) (j : S16384.Idx) :
    pieceC X L r j = X (Shape.pair (d := ![128, 32768])
      ⟨(3 * (wid L).val + r.val) / 2, by have := (wid L).isLt; have := r.isLt; show _ < 128; omega⟩
      ⟨(3 * (wid L).val + r.val) % 2 * 16384 + (j 0).val, by have : (j 0).val < 16384 := (j 0).isLt; show _ < 32768; omega⟩) := by
  show X ((pieceRect L r).emb (Shape.reshapeEquiv _ j)) = _
  congr 1
  rw [Shape.reshapeEquiv_cons_one]
  funext a; apply Fin.ext
  rw [Rect.emb_apply]
  show k0_off1 L _ a + 1 * _ = _
  rw [k0_off1_eq]
  match a with
  | 0 =>
    show (48 * (L 0).val + 3 * (L 1).val + r.val) / 2 + 1 * 0 = (3 * (16 * (L 0).val + (L 1).val) + r.val) / 2
    omega
  | 1 =>
    show (48 * (L 0).val + 3 * (L 1).val + r.val) % 2 * 16384 + 1 * (j 0).val = (3 * (16 * (L 0).val + (L 1).val) + r.val) % 2 * 16384 + (j 0).val
    omega

theorem ld1_apply (B : S16384.Idx → Elt F .f32) (k : Fin k0_t1_loop.trips) (u : Fin 8) (l : S16.Idx) :
    ld1 B k u l = B (ix1 ⟨128 * k.val + 16 * u.val + (l 0).val, by
      have hk : k.val < 128 := Nat.lt_of_lt_of_le k.isLt k0_t1_abs.2.1
      have := u.isLt
      have : (l 0).val < 16 := (l 0).isLt
      omega⟩) := by
  unfold ld1
  refine congrArg B ?_
  funext a
  obtain rfl : a = 0 := Subsingleton.elim (α := Fin 1) a 0
  apply Fin.ext
  show k0_off2 k (BitVec.ofNat 32 u.val) 0 + 1 * (l 0).val = _
  rw [k0_off2_eq]
  show 128 * k.val + 16 * u.val + 1 * (l 0).val = 128 * k.val + 16 * u.val + (l 0).val
  omega

theorem ld2_apply (B : S16384.Idx → Elt F .f32) (k : Fin k0_t2_loop.trips) (u : Fin 8) (l : S16.Idx) :
    ld2 B k u l = B (ix1 ⟨128 * k.val + 16 * u.val + (l 0).val, by
      have hk : k.val < 128 := Nat.lt_of_lt_of_le k.isLt k0_t2_abs.2.1
      have := u.isLt
      have : (l 0).val < 16 := (l 0).isLt
      omega⟩) := by
  unfold ld2
  refine congrArg B ?_
  funext a
  obtain rfl : a = 0 := Subsingleton.elim (α := Fin 1) a 0
  apply Fin.ext
  show k0_off3 k (BitVec.ofNat 32 u.val) 0 + 1 * (l 0).val = _
  rw [k0_off3_eq]
  show 128 * k.val + 16 * u.val + 1 * (l 0).val = 128 * k.val + 16 * u.val + (l 0).val
  omega

theorem ld3_apply (B : S16384.Idx → Elt F .f32) (k : Fin k0_t3_loop.trips) (u : Fin 8) (l : S16.Idx) :
    ld3 B k u l = B (ix1 ⟨128 * k.val + 16 * u.val + (l 0).val, by
      have hk : k.val < 128 := Nat.lt_of_lt_of_le k.isLt k0_t3_abs.2.1
      have := u.isLt
      have : (l 0).val < 16 := (l 0).isLt
      omega⟩) := by
  unfold ld3
  refine congrArg B ?_
  funext a
  obtain rfl : a = 0 := Subsingleton.elim (α := Fin 1) a 0
  apply Fin.ext
  show k0_off4 k (BitVec.ofNat 32 u.val) 0 + 1 * (l 0).val = _
  rw [k0_off4_eq]
  show 128 * k.val + 16 * u.val + 1 * (l 0).val = 128 * k.val + 16 * u.val + (l 0).val
  omega

end Cert.KernelIdeal.Pf
-- ==== Proof.Tile.lean ====
module

public import proofs.«01_k».proof.Proof.Places
public import Idealize.ShloMosaic.Lib.ViewIndex

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

variable (d : Dev nD) (L : grid0.Coords)

/-- What loop `n` leaves untouched and what it carries: its piece buffer at `B`, the carried values at trip `k`'s. -/
def inv1 (B : Buf (Elt F) ((VT d L).loc cc0_scratch0)) (k : ℕ) (a : FVec F S16 .f32 × IVec S16 32) : sProp 𝕄 :=
  iprop((b0.view.loc (VT d L) ↦{fullShare} B) ∗ ⌜a = iter1 B (k0_pay43, k0_pay44) k⌝)
def inv2 (a₀ : FVec F S16 .f32 × IVec S16 32) (B : Buf (Elt F) ((VT d L).loc cc0_scratch1)) (k : ℕ) (a : FVec F S16 .f32 × IVec S16 32) : sProp 𝕄 :=
  iprop((b1.view.loc (VT d L) ↦{fullShare} B) ∗ ⌜a = iter2 B a₀ k⌝)
def inv3 (a₀ : FVec F S16 .f32 × IVec S16 32) (B : Buf (Elt F) ((VT d L).loc cc0_scratch2)) (k : ℕ) (a : FVec F S16 .f32 × IVec S16 32) : sProp 𝕄 :=
  iprop((b2.view.loc (VT d L) ↦{fullShare} B) ∗ ⌜a = iter3 B a₀ k⌝)

/-- A row written whole holds what was written. -/
theorem row_written {sp : Space} {s : Shape} {e : EltTy} (v : View sig .scVector sp s e) (f : v.ty.Contents (Elt F)) (w : s.Idx → Elt F e)
    (g : v.ty.Contents (Elt F)) (h : ∀ j, w j = v.read (Elt F) g j) {i : v.ty.Idx} (hi : i ∈ v.set) :
    v.writes (Elt F) f [⟨Rect.whole s, w⟩] i = g i := by
  obtain ⟨j, -, rfl⟩ := Finset.mem_map.mp hi
  exact View.eq_of_read_eq ((congrFun (View.read_writes_whole v f w) j).trans (h j))

/-- The 16-lane buffers hold what the last store left. -/
theorem sv_read (f3 : sv.view.ty.Contents (Elt F)) (w : S16.Idx → Elt F .f32) :
    sv.view.read (Elt F) (sv.view.writes (Elt F) f3 [⟨Rect.unit ![0] S16.size inb_S16_S16_0, w⟩]) = w := by
  funext j
  have h := View.read_writes_cons_emb sv.view f3 (Rect.unit ![0] S16.size inb_S16_S16_0) w [] j
  rwa [show (Rect.unit (s := S16) ![0] S16.size inb_S16_S16_0).emb j = j from by
    funext a; obtain rfl : a = 0 := Subsingleton.elim (α := Fin 1) a 0
    apply Fin.ext; rw [Rect.emb_apply]; show 0 + 1 * (j 0).val = _; omega] at h
theorem si_read (f4 : si.view.ty.Contents (Elt F)) (w : S16.Idx → Elt F .i32) :
    si.view.read (Elt F) (si.view.writes (Elt F) f4 [⟨Rect.unit ![0] S16.size inb_S16_S16_0, w⟩]) = w := by
  funext j
  have h := View.read_writes_cons_emb si.view f4 (Rect.unit ![0] S16.size inb_S16_S16_0) w [] j
  rwa [show (Rect.unit (s := S16) ![0] S16.size inb_S16_S16_0).emb j = j from by
    funext a; obtain rfl : a = 0 := Subsingleton.elim (α := Fin 1) a 0
    apply Fin.ext; rw [Rect.emb_apply]; show 0 + 1 * (j 0).val = _; omega] at h

theorem tile_run (q : PosShare TreeShare) (X : Buf (Elt F) (xLoc d)) (V0 : Buf (Elt F) (vLoc d)) (I0 : Buf (Elt F) (iLoc d))
    (O : CellTallies nD τ sig (HIx 1)) (W : Waits sig (HIx 1))
    (f0 : Buf (Elt F) ((VT d L).loc cc0_scratch0)) (f1 : Buf (Elt F) ((VT d L).loc cc0_scratch1)) (f2 : Buf (Elt F) ((VT d L).loc cc0_scratch2))
    (f3 : Buf (Elt F) ((VT d L).loc cc0_scratch3)) (f4 : Buf (Elt F) ((VT d L).loc cc0_scratch4)) :
    (iprop(Transfers.MayWaits (VT d L) (default : HIx 1) O
        ∗ (xV.view.loc (VT d L) ↦{Transfers.shareTokN q 0} X)
        ∗ (xV.view.loc (VT d L) ↦{Transfers.shareTokN q 1} X)
        ∗ (xV.view.loc (VT d L) ↦{Transfers.shareTokN q 2} X)
        ∗ ((vRow L).view.loc (VT d L) ↦[(vRow L).view.set]{fullShare} V0)
        ∗ ((iRow L).view.loc (VT d L) ↦[(iRow L).view.set]{fullShare} I0)
        ∗ (b0.view.loc (VT d L) ↦{fullShare} f0)
        ∗ (b1.view.loc (VT d L) ↦{fullShare} f1)
        ∗ (b2.view.loc (VT d L) ↦{fullShare} f2)
        ∗ (sv.view.loc (VT d L) ↦{fullShare} f3)
        ∗ (si.view.loc (VT d L) ↦{fullShare} f4)
        ∗ semVal (VT d L, SemLoc.dma cc0_scratch5.sem) 0 ∗ semVal (VT d L, SemLoc.dma cc0_scratch6.sem) 0 ∗ semVal (VT d L, SemLoc.dma cc0_scratch7.sem) 0
        ∗ semVal (VT d L, SemLoc.dma cc0_scoped0.sem) 0 ∗ semVal (VT d L, SemLoc.dma cc0_scoped1.sem) 0
        ∗ owes (VT d L) O W) : sProp 𝕄)
      ⊢ wp frame (wpE (defs₀ (F := F)) 𝒱₀ (VT d L) none) Set.univ
          (cc0__sc_scan L xV (Memref.isWhole_whole _) vV (Memref.isWhole_whole _) iV (Memref.isWhole_whole _)
            b0 (Memref.isWhole_whole _) b1 (Memref.isWhole_whole _) b2 (Memref.isWhole_whole _) sv (Memref.isWhole_whole _) si (Memref.isWhole_whole _)
            cc0_scratch5 cc0_scratch6 cc0_scratch7 cc0_scoped0 cc0_scoped1)
          fun _ => iprop((xV.view.loc (VT d L) ↦{Transfers.shareTokN q 0} X)
            ∗ (xV.view.loc (VT d L) ↦{Transfers.shareTokN q 1} X)
            ∗ (xV.view.loc (VT d L) ↦{Transfers.shareTokN q 2} X)
            ∗ ((vRow L).view.loc (VT d L) ↦[(vRow L).view.set]{fullShare} (vOut X : Buf (Elt F) (vLoc d)))
            ∗ ((iRow L).view.loc (VT d L) ↦[(iRow L).view.set]{fullShare} (iOut X : Buf (Elt F) (iLoc d)))
            ∗ (∃ f, b0.view.loc (VT d L) ↦{fullShare} f)
            ∗ (∃ f, b1.view.loc (VT d L) ↦{fullShare} f)
            ∗ (∃ f, b2.view.loc (VT d L) ↦{fullShare} f)
            ∗ (∃ f, sv.view.loc (VT d L) ↦{fullShare} f)
            ∗ (∃ f, si.view.loc (VT d L) ↦{fullShare} f)
            ∗ semVal (VT d L, SemLoc.dma cc0_scratch5.sem) 0 ∗ semVal (VT d L, SemLoc.dma cc0_scratch6.sem) 0 ∗ semVal (VT d L, SemLoc.dma cc0_scratch7.sem) 0
            ∗ semVal (VT d L, SemLoc.dma cc0_scoped0.sem) 0 ∗ semVal (VT d L, SemLoc.dma cc0_scoped1.sem) 0
            ∗ ∃ W', ⌜∀ p ∈ W', p ∈ W ∨ p.2 = none⌝ ∗ owes (VT d L) O W') := by
  iintro ⟨#Hmw, Hx0, Hx1, Hx2, Hv, Hi, Hb0, Hb1, Hb2, Hsv, Hsi, Hc0, Hc1, Hc2, Hd0, Hd1, HO⟩
  sl_unfold [cc0__sc_scan]
  sl_exec (disch := exact View.amount_pos _ _ (show 0 < S16384.numel by decide))
  ihave Hb0' := (Entails.of_eq (show (b0.view.loc (VT d L) ↦{fullShare} View.write (Elt F) b0.view f0 (tile_run.sl.dma0 d L X) Finset.univ : sProp 𝕄)
    = (b0.view.loc (VT d L) ↦{fullShare} pieceC X L 0) by rw [View.write_whole_univ]; rfl)) $$ Hb0
  sl_for (inv1 d L (pieceC X L 0)) $$ [Hb0']
  case region =>
    rintro k a
    unfold inv1
    iintro ⟨Hb0, %ha⟩
    obtain ⟨a1, a2⟩ := a
    sl_exec
    sl_step
    isplitl [Hb0]; · iexact Hb0
    ipureintro
    rw [iter1_succ, ← ha]
    rfl
  · unfold inv1
    isplitl [Hb0']; · iexact Hb0'
    ipureintro; rfl
  iintro %a HI
  unfold inv1
  icases HI with ⟨Hb0, %ha⟩
  obtain ⟨a1, a2⟩ := a
  have h1 : (a1, a2) = acc1 X L := ha
  clear ha
  sl_exec (disch := exact View.amount_pos _ _ (show 0 < S16384.numel by decide))
  ihave Hb1' := (Entails.of_eq (show (b1.view.loc (VT d L) ↦{fullShare} View.write (Elt F) b1.view f1 (tile_run.sl.dma0_1 d L X) Finset.univ : sProp 𝕄)
    = (b1.view.loc (VT d L) ↦{fullShare} pieceC X L 1) by rw [View.write_whole_univ]; rfl)) $$ Hb1
  sl_for (inv2 d L (acc1 X L) (pieceC X L 1)) $$ [Hb1']
  case region =>
    rintro k a
    unfold inv2
    iintro ⟨Hb1, %ha⟩
    obtain ⟨a1, a2⟩ := a
    sl_exec
    sl_step
    isplitl [Hb1]; · iexact Hb1
    ipureintro
    rw [iter2_succ, ← ha]
    rfl
  · unfold inv2
    isplitl [Hb1']; · iexact Hb1'
    ipureintro; exact h1
  iintro %a HI
  unfold inv2
  icases HI with ⟨Hb1, %ha⟩
  obtain ⟨a1, a2⟩ := a
  have h2 : (a1, a2) = acc2 X L := ha
  clear ha
  sl_exec (disch := exact View.amount_pos _ _ (show 0 < S16384.numel by decide))
  ihave Hb2' := (Entails.of_eq (show (b2.view.loc (VT d L) ↦{fullShare} View.write (Elt F) b2.view f2 (tile_run.sl.dma0_2 d L X) Finset.univ : sProp 𝕄)
    = (b2.view.loc (VT d L) ↦{fullShare} pieceC X L 2) by rw [View.write_whole_univ]; rfl)) $$ Hb2
  sl_for (inv3 d L (acc2 X L) (pieceC X L 2)) $$ [Hb2']
  case region =>
    rintro k a
    unfold inv3
    iintro ⟨Hb2, %ha⟩
    obtain ⟨a1, a2⟩ := a
    sl_exec
    sl_step
    isplitl [Hb2]; · iexact Hb2
    ipureintro
    rw [iter3_succ, ← ha]
    rfl
  · unfold inv3
    isplitl [Hb2']; · iexact Hb2'
    ipureintro; exact h2
  iintro %a HI
  unfold inv3
  icases HI with ⟨Hb2, %ha⟩
  obtain ⟨a1, a2⟩ := a
  have h3 : (a1, a2) = acc3 X L := ha
  clear ha
  sl_exec (disch := exact View.amount_pos _ _ (show 0 < S16.numel by decide))
  sl_step
  ihave Hv' := (Entails.of_eq (pointsTo_congr (ℓ := (vRow L).view.loc (VT d L)) (I := (vRow L).view.set) (q := fullShare)
    (f := (vRow L).view.writes (Elt F) V0 [⟨Rect.whole S16, tile_run.sl.dma4 d L f3 a1⟩]) (g := (vOut X : Buf (Elt F) (vLoc d))) (by
      intro i hi
      refine row_written (vRow L).view V0 _ (vOut X) (fun j => ?_) hi
      refine Eq.trans ?_ (vOut_emb X L j).symm
      rw [tileV, ← h3]
      exact congrFun (sv_read f3 _) j))) $$ Hv
  ihave Hi' := (Entails.of_eq (pointsTo_congr (ℓ := (iRow L).view.loc (VT d L)) (I := (iRow L).view.set) (q := fullShare)
    (f := (iRow L).view.writes (Elt F) I0 [⟨Rect.whole S16, tile_run.sl.dma4_1 d L f4 a2⟩]) (g := (iOut X : Buf (Elt F) (iLoc d))) (by
      intro i hi
      refine row_written (iRow L).view I0 _ (iOut X) (fun j => ?_) hi
      refine Eq.trans ?_ (iOut_emb X L j).symm
      rw [tileI, ← h3]
      exact congrFun (si_read f4 _) j))) $$ Hi
  isplitl [Hx0]; · iexact Hx0
  isplitl [Hx1]; · iexact Hx1
  isplitl [Hx2]; · iexact Hx2
  isplitl [Hv']; · iexact Hv'
  isplitl [Hi']; · iexact Hi'
  isplitl [Hb0]; · iexists _; iexact Hb0
  isplitl [Hb1]; · iexists _; iexact Hb1
  isplitl [Hb2]; · iexists _; iexact Hb2
  isplitl [Hsv]; · iexists _; iexact Hsv
  isplitl [Hsi]; · iexists _; iexact Hsi
  isplitl [Hc0]; · iexact Hc0
  isplitl [Hc1]; · iexact Hc1
  isplitl [Hc2]; · iexact Hc2
  isplitl [Hd0]; · iexact Hd0
  isplitl [Hd1]; · iexact Hd1
  iexists _
  isplitr [HO]; swap; · iexact HO
  ipureintro
  intro p hp
  simp only [Finset.mem_insert] at hp
  rcases hp with rfl | rfl | rfl | rfl | rfl | hp
  · exact Or.inr rfl
  · exact Or.inr rfl
  · exact Or.inr rfl
  · exact Or.inr rfl
  · exact Or.inr rfl
  · exact Or.inl hp

end Cert.KernelIdeal.Pf
-- ==== Proof.TileBody.lean ====
/-
  One vector subcore's task: what the launch hands it, what it gives back.
-/
module

public import proofs.«01_k».proof.Proof.Tile

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The subcore's own semaphores and buffers, apart from what the kernel names -/

def restSems : sProp 𝕄 := bigSep (((((((ownCells (VT d L)).erase ((VT d L, SemLoc.dma cc0_scratch5.sem) : GSem nD τ sig)).erase ((VT d L, SemLoc.dma cc0_scratch6.sem) : GSem nD τ sig)).erase ((VT d L, SemLoc.dma cc0_scratch7.sem) : GSem nD τ sig)).erase ((VT d L, SemLoc.dma cc0_scoped0.sem) : GSem nD τ sig)).erase ((VT d L, SemLoc.dma cc0_scoped1.sem) : GSem nD τ sig))) fun g => semVal g 0
theorem ownSems0_V : (ownSems0 (VT d L) : sProp 𝕄)
    = iprop(semVal ((VT d L, SemLoc.dma cc0_scratch5.sem) : GSem nD τ sig) 0 ∗ semVal ((VT d L, SemLoc.dma cc0_scratch6.sem) : GSem nD τ sig) 0 ∗ semVal ((VT d L, SemLoc.dma cc0_scratch7.sem) : GSem nD τ sig) 0 ∗ semVal ((VT d L, SemLoc.dma cc0_scoped0.sem) : GSem nD τ sig) 0 ∗ semVal ((VT d L, SemLoc.dma cc0_scoped1.sem) : GSem nD τ sig) 0 ∗ restSems (F := F) d L) := by
  unfold SparseCore.Cfg.ownSems0 restSems
  rw [SparseCore.bigSep_erase' ((mem_ownCells (g := ((VT d L, SemLoc.dma cc0_scratch5.sem) : GSem nD τ sig))).mpr ⟨rfl, by show (SemLoc.dma cc0_scratch5.sem : SemLoc sig).isScoped .scVector = true; decide⟩),
    SparseCore.bigSep_erase' (Finset.mem_erase.mpr ⟨fun e => absurd (congrArg Prod.snd e) (show (SemLoc.dma cc0_scratch6.sem : SemLoc sig) ≠ SemLoc.dma cc0_scratch5.sem by decide), (mem_ownCells (g := ((VT d L, SemLoc.dma cc0_scratch6.sem) : GSem nD τ sig))).mpr ⟨rfl, by show (SemLoc.dma cc0_scratch6.sem : SemLoc sig).isScoped .scVector = true; decide⟩⟩),
    SparseCore.bigSep_erase' (Finset.mem_erase.mpr ⟨fun e => absurd (congrArg Prod.snd e) (show (SemLoc.dma cc0_scratch7.sem : SemLoc sig) ≠ SemLoc.dma cc0_scratch6.sem by decide), Finset.mem_erase.mpr ⟨fun e => absurd (congrArg Prod.snd e) (show (SemLoc.dma cc0_scratch7.sem : SemLoc sig) ≠ SemLoc.dma cc0_scratch5.sem by decide), (mem_ownCells (g := ((VT d L, SemLoc.dma cc0_scratch7.sem) : GSem nD τ sig))).mpr ⟨rfl, by show (SemLoc.dma cc0_scratch7.sem : SemLoc sig).isScoped .scVector = true; decide⟩⟩⟩),
    SparseCore.bigSep_erase' (Finset.mem_erase.mpr ⟨fun e => absurd (congrArg Prod.snd e) (show (SemLoc.dma cc0_scoped0.sem : SemLoc sig) ≠ SemLoc.dma cc0_scratch7.sem by decide), Finset.mem_erase.mpr ⟨fun e => absurd (congrArg Prod.snd e) (show (SemLoc.dma cc0_scoped0.sem : SemLoc sig) ≠ SemLoc.dma cc0_scratch6.sem by decide), Finset.mem_erase.mpr ⟨fun e => absurd (congrArg Prod.snd e) (show (SemLoc.dma cc0_scoped0.sem : SemLoc sig) ≠ SemLoc.dma cc0_scratch5.sem by decide), (mem_ownCells (g := ((VT d L, SemLoc.dma cc0_scoped0.sem) : GSem nD τ sig))).mpr ⟨rfl, by show (SemLoc.dma cc0_scoped0.sem : SemLoc sig).isScoped .scVector = true; decide⟩⟩⟩⟩),
    SparseCore.bigSep_erase' (Finset.mem_erase.mpr ⟨fun e => absurd (congrArg Prod.snd e) (show (SemLoc.dma cc0_scoped1.sem : SemLoc sig) ≠ SemLoc.dma cc0_scoped0.sem by decide), Finset.mem_erase.mpr ⟨fun e => absurd (congrArg Prod.snd e) (show (SemLoc.dma cc0_scoped1.sem : SemLoc sig) ≠ SemLoc.dma cc0_scratch7.sem by decide), Finset.mem_erase.mpr ⟨fun e => absurd (congrArg Prod.snd e) (show (SemLoc.dma cc0_scoped1.sem : SemLoc sig) ≠ SemLoc.dma cc0_scratch6.sem by decide), Finset.mem_erase.mpr ⟨fun e => absurd (congrArg Prod.snd e) (show (SemLoc.dma cc0_scoped1.sem : SemLoc sig) ≠ SemLoc.dma cc0_scratch5.sem by decide), (mem_ownCells (g := ((VT d L, SemLoc.dma cc0_scoped1.sem) : GSem nD τ sig))).mpr ⟨rfl, by show (SemLoc.dma cc0_scoped1.sem : SemLoc sig).isScoped .scVector = true; decide⟩⟩⟩⟩⟩)]

def restBufs : sProp 𝕄 := bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))) fun b => iprop(∃ f, ((d, b) : Loc nD τ sig) ↦{fullShare} f)
theorem ownBufs_V : (ownBufs (VT d L) : sProp 𝕄)
    = iprop((∃ f, (VT d L).loc cc0_scratch0 ↦{fullShare} f) ∗ (∃ f, (VT d L).loc cc0_scratch1 ↦{fullShare} f) ∗ (∃ f, (VT d L).loc cc0_scratch2 ↦{fullShare} f) ∗ (∃ f, (VT d L).loc cc0_scratch3 ↦{fullShare} f) ∗ (∃ f, (VT d L).loc cc0_scratch4 ↦{fullShare} f) ∗ restBufs (F := F) d L) := by
  unfold SparseCore.Cfg.ownBufs restBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

/-! ## One subcore's task, from what the launch hands it to what it hands back -/

theorem tile_body (q : PosShare TreeShare) (X : Buf (Elt F) (xLoc d)) (V0 : Buf (Elt F) (vLoc d)) (I0 : Buf (Elt F) (iLoc d))
    (O : CellTallies nD τ sig (HIx 1)) (W : Waits sig (HIx 1)) (hO : ∀ g, O g none = 0) :
    (iprop(levAts (K (F := F)).L (K (F := F)).lev ∗ emp
        ∗ ((xLoc d ↦{q} X) ∗ (vLoc d ↦[(vRow L).view.set]{fullShare} V0) ∗ (iLoc d ↦[(iRow L).view.set]{fullShare} I0))
        ∗ scopedBufs (VT d L) ∗ scopedSems0 (VT d L) ∗ owes (VT d L) O W) : sProp 𝕄)
      ⊢ wp frame (wpE (defs₀ (F := F)) 𝒱₀ (VT d L) none) Set.univ
          (cc0__sc_scan L xV (Memref.isWhole_whole _) vV (Memref.isWhole_whole _) iV (Memref.isWhole_whole _)
            b0 (Memref.isWhole_whole _) b1 (Memref.isWhole_whole _) b2 (Memref.isWhole_whole _) sv (Memref.isWhole_whole _) si (Memref.isWhole_whole _)
            cc0_scratch5 cc0_scratch6 cc0_scratch7 cc0_scoped0 cc0_scoped1)
          fun _ => iprop(((xLoc d ↦{q} X) ∗ (vLoc d ↦[(vRow L).view.set]{fullShare} (vOut X : Buf (Elt F) (vLoc d)))
              ∗ (iLoc d ↦[(iRow L).view.set]{fullShare} (iOut X : Buf (Elt F) (iLoc d))))
            ∗ scopedBufs (VT d L) ∗ scopedSems0 (VT d L)
            ∗ ∃ W', ⌜∀ p ∈ W', p ∈ W ∨ p.2 = none⌝ ∗ owes (VT d L) O W') := by
  have hx : (xLoc d ↦{q} X : sProp 𝕄) ⊣⊢ iprop((xLoc d ↦{Transfers.shareDrop q 3} X) ∗ (xLoc d ↦{Transfers.shareTokN q 0} X)
      ∗ (xLoc d ↦{Transfers.shareTokN q 1} X) ∗ (xLoc d ↦{Transfers.shareTokN q 2} X)) := by
    have h : (xLoc d ↦{q} X : sProp 𝕄) ⊣⊢ _ := Transfers.pointsTo_toks_range q 3
    rwa [show Finset.range 3 = {0, 1, 2} by decide, SparseCore.bigSep_insert' (by decide), SparseCore.bigSep_insert' (by decide), bigSep_singleton] at h
  rw [(K (F := F)).scopedBufs_V scFacts d (cV L) (jV L), SparseCore.Cfg.scopedSems0_V (Val := Elt F) d (cV L) (jV L), ownSems0_V, ownBufs_V]
  iintro ⟨#Hlv, -, ⟨Hx, Hv, Hi⟩, ⟨⟨%f0, Hb0⟩, ⟨%f1, Hb1⟩, ⟨%f2, Hb2⟩, ⟨%f3, Hsv⟩, ⟨%f4, Hsi⟩, Hbufs⟩, ⟨Hc0, Hc1, Hc2, Hd0, Hd1, Hsems⟩, HO⟩
  ihave Hmw := (show levAts (K (F := F)).L (K (F := F)).lev ⊢ Transfers.MayWaits (VT d L) (default : HIx 1) O from
    (K (F := F)).mayWaits_none (thr := VT d L) hO) $$ Hlv
  ihave Hx' := hx.1 $$ Hx
  icases Hx' with ⟨Hx, Hx0, Hx1, Hx2⟩
  iapply (wp_wand_r Idealize.ShloMosaic.frame (wpE (defs₀ (F := F)) 𝒱₀ (VT d L) none) Set.univ)
  isplitl [Hmw Hx0 Hx1 Hx2 Hv Hi Hb0 Hb1 Hb2 Hsv Hsi Hc0 Hc1 Hc2 Hd0 Hd1 HO]
  · iapply (tile_run d L q X V0 I0 O W f0 f1 f2 f3 f4)
    iframe
    iexact Hmw
  · iintro %_ ⟨Hx0, Hx1, Hx2, Hv, Hi, Hb0, Hb1, Hb2, Hsv, Hsi, Hc0, Hc1, Hc2, Hd0, Hd1, HO⟩
    isplitl [Hx Hx0 Hx1 Hx2 Hv Hi]
    · isplitl [Hx Hx0 Hx1 Hx2]
      · iapply hx.2
        isplitl [Hx]; · iexact Hx
        isplitl [Hx0]; · iexact Hx0
        isplitl [Hx1]; · iexact Hx1
        iexact Hx2
      isplitl [Hv]; · iexact Hv
      iexact Hi
    isplitl [Hb0 Hb1 Hb2 Hsv Hsi Hbufs]
    · isplitl [Hb0]; · iexact Hb0
      isplitl [Hb1]; · iexact Hb1
      isplitl [Hb2]; · iexact Hb2
      isplitl [Hsv]; · iexact Hsv
      isplitl [Hsi]; · iexact Hsi
      iexact Hbufs
    isplitl [Hc0 Hc1 Hc2 Hd0 Hd1 Hsems]
    · isplitl [Hc0]; · iexact Hc0
      isplitl [Hc1]; · iexact Hc1
      isplitl [Hc2]; · iexact Hc2
      isplitl [Hd0]; · iexact Hd0
      isplitl [Hd1]; · iexact Hd1
      iexact Hsems
    iexact HO

end Cert.KernelIdeal.Pf
-- ==== Proof.ScLaunch.lean ====
/-
  The SparseCore launch: what each SparseCore and each subcore is handed, what comes back, and the
  launch theorem's obligations for it.
-/
module

public import proofs.«01_k».proof.Proof.TileBody

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## How the two output arrays are cut: one row per subcore, sixteen rows per SparseCore -/

/-- The row of the subcore at `(c, i)`, as a set of indices; the rows of SparseCore `c`. -/
def rowSet (c : Fin 2) (i : Fin 16) : Finset S32x16.Idx := Finset.univ.filter fun x => (x 0).val = 16 * c.val + i.val
def coreSet (c : Fin 2) : Finset S32x16.Idx := Finset.univ.filter fun x => (x 0).val / 16 = c.val

theorem set_vRow (c : Fin (grid0.bound 0)) (i : Fin (grid0.bound 1)) : (vRow (coordsV c i)).view.set = rowSet c i := by
  ext x
  constructor
  · intro h
    obtain ⟨j, -, rfl⟩ := Finset.mem_map.mp h
    rw [emb_vRow]
    exact Finset.mem_filter.mpr ⟨Finset.mem_univ _, rfl⟩
  · intro h
    have h0 := (Finset.mem_filter.mp h).2
    refine Finset.mem_map.mpr ⟨ix1 (x 1), Finset.mem_univ _, ?_⟩
    rw [emb_vRow]
    funext a
    match a with
    | 0 => exact Fin.ext h0.symm
    | 1 => rfl
theorem set_iRow (c : Fin (grid0.bound 0)) (i : Fin (grid0.bound 1)) : (iRow (coordsV c i)).view.set = rowSet c i := set_vRow c i

theorem rows_disjoint (c : Fin 2) : ∀ i ∈ (Finset.univ : Finset (Fin 16)), ∀ j ∈ (Finset.univ : Finset (Fin 16)), i ≠ j → Disjoint (rowSet c i) (rowSet c j) := by
  intro i _ j _ h
  refine Finset.disjoint_left.mpr fun x hi hj => h (Fin.ext ?_)
  have h1 := (Finset.mem_filter.mp hi).2
  have h2 := (Finset.mem_filter.mp hj).2
  omega
theorem rows_cover (c : Fin 2) : (Finset.univ : Finset (Fin 16)).biUnion (rowSet c) = coreSet c := by
  ext x
  simp only [Finset.mem_biUnion, Finset.mem_univ, true_and, rowSet, coreSet, Finset.mem_filter]
  constructor
  · rintro ⟨i, h⟩; have := i.isLt; omega
  · intro h; exact ⟨⟨(x 0).val % 16, Nat.mod_lt _ (by decide)⟩, by show (x 0).val = 16 * c.val + (x 0).val % 16; omega⟩
theorem cores_disjoint : ∀ i ∈ (Finset.univ : Finset (Fin 2)), ∀ j ∈ (Finset.univ : Finset (Fin 2)), i ≠ j → Disjoint (coreSet i) (coreSet j) := by
  intro i _ j _ h
  refine Finset.disjoint_left.mpr fun x hi hj => h (Fin.ext ?_)
  have h1 := (Finset.mem_filter.mp hi).2
  have h2 := (Finset.mem_filter.mp hj).2
  omega
theorem cores_cover : (Finset.univ : Finset (Fin 2)).biUnion coreSet = Finset.univ := by
  ext x
  simp only [Finset.mem_biUnion, Finset.mem_univ, true_and, coreSet, Finset.mem_filter, iff_true]
  have hx : (x 0).val < 32 := (x 0).isLt
  exact ⟨⟨(x 0).val / 16, by omega⟩, rfl⟩

theorem vPts_rows (d : Dev nD) (c : Fin 2) (f : Buf (Elt F) (vLoc d)) :
    (vLoc d ↦[coreSet c]{fullShare} f : sProp 𝕄) = bigSep Finset.univ fun i : Fin 16 => vLoc d ↦[rowSet c i]{fullShare} f := by
  rw [← pointsTo_biUnion Finset.univ (ℓ := vLoc d) (rowSet c) (rows_disjoint c), rows_cover]; try rfl
theorem iPts_rows (d : Dev nD) (c : Fin 2) (f : Buf (Elt F) (iLoc d)) :
    (iLoc d ↦[coreSet c]{fullShare} f : sProp 𝕄) = bigSep Finset.univ fun i : Fin 16 => iLoc d ↦[rowSet c i]{fullShare} f := by
  rw [← pointsTo_biUnion Finset.univ (ℓ := iLoc d) (rowSet c) (rows_disjoint c), rows_cover]; try rfl
theorem vPts_cores (d : Dev nD) (f : Buf (Elt F) (vLoc d)) :
    (vLoc d ↦{fullShare} f : sProp 𝕄) = bigSep Finset.univ fun c : Fin 2 => vLoc d ↦[coreSet c]{fullShare} f := by
  rw [← pointsTo_biUnion Finset.univ (ℓ := vLoc d) coreSet cores_disjoint, cores_cover]; try rfl
theorem iPts_cores (d : Dev nD) (f : Buf (Elt F) (iLoc d)) :
    (iLoc d ↦{fullShare} f : sProp 𝕄) = bigSep Finset.univ fun c : Fin 2 => iLoc d ↦[coreSet c]{fullShare} f := by
  rw [← pointsTo_biUnion Finset.univ (ℓ := iLoc d) coreSet cores_disjoint, cores_cover]; try rfl

/-! ## What the call hands each SparseCore and each subcore, and what comes back -/

/-- The read share of `x` SparseCore `c` gets, and the one its subcore `i` gets. -/
def qC (c : Fin 2) : PosShare TreeShare := Transfers.dealOf fullShare Finset.univ c
def qT (c : Fin 2) (i : Fin 16) : PosShare TreeShare := Transfers.dealOf (qC c) Finset.univ i

theorem xPts_cores (d : Dev nD) (f : Buf (Elt F) (xLoc d)) :
    (xLoc d ↦{fullShare} f : sProp 𝕄) = bigSep Finset.univ fun c : Fin 2 => xLoc d ↦{qC c} f :=
  Transfers.pointsTo_deal Finset.univ ⟨0, Finset.mem_univ _⟩ fullShare
theorem xPts_tiles (d : Dev nD) (c : Fin 2) (f : Buf (Elt F) (xLoc d)) :
    (xLoc d ↦{qC c} f : sProp 𝕄) = bigSep Finset.univ fun i : Fin 16 => xLoc d ↦{qT c i} f :=
  Transfers.pointsTo_deal Finset.univ ⟨0, Finset.mem_univ _⟩ (qC c)

/-- What SparseCore `c` holds over the call: its share of `x`, its sixteen rows of each output at `V`, `I`. -/
abbrev coreR (d : Dev nD) (c : Fin 2) (V : Buf (Elt F) (vLoc d)) (I : Buf (Elt F) (iLoc d)) : sProp 𝕄 :=
  iprop((xLoc d ↦{qC c} m (xLoc d)) ∗ (vLoc d ↦[coreSet c]{fullShare} V) ∗ (iLoc d ↦[coreSet c]{fullShare} I))
/-- What its subcore `i` holds over its task. -/
abbrev tileR (d : Dev nD) (c : Fin 2) (i : Fin 16) (V : Buf (Elt F) (vLoc d)) (I : Buf (Elt F) (iLoc d)) : sProp 𝕄 :=
  iprop((xLoc d ↦{qT c i} m (xLoc d)) ∗ (vLoc d ↦[rowSet c i]{fullShare} V) ∗ (iLoc d ↦[rowSet c i]{fullShare} I))

/-- What the whole launch leaves in the two outputs. -/
abbrev vFin (d : Dev nD) : Buf (Elt F) (vLoc d) := vOut (m (xLoc d))
abbrev iFin (d : Dev nD) : Buf (Elt F) (iLoc d) := iOut (m (xLoc d))

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => coreR m d (Fin.cast nCore_zero c) (m (vLoc d)) (m (iLoc d))
  dn := fun q d c => match q with | 0 => coreR m d (Fin.cast nCore_zero c) (vFin m d) (iFin m d)
  go := fun q d c i => match q with | 0 => tileR m d (Fin.cast nCore_zero c) (Fin.cast nSub_zero i) (m (vLoc d)) (m (iLoc d))
  td := fun q d c i => match q with | 0 => tileR m d (Fin.cast nCore_zero c) (Fin.cast nSub_zero i) (vFin m d) (iFin m d)
  x := fun _ _ => iprop(emp)

instance P_storable : (P (F := F) m).IsStorable where
  st q d c := match q with
    | 0 => (inferInstance : BI.Storable (upEmb : UEmb _ 𝕄) (coreR m d (Fin.cast nCore_zero c) (m (vLoc d)) (m (iLoc d))))
  dn q d c := match q with
    | 0 => (inferInstance : BI.Storable (upEmb : UEmb _ 𝕄) (coreR m d (Fin.cast nCore_zero c) (vFin m d) (iFin m d)))
  go q d c i := match q with
    | 0 => (inferInstance : BI.Storable (upEmb : UEmb _ 𝕄) (tileR m d (Fin.cast nCore_zero c) (Fin.cast nSub_zero i) (m (vLoc d)) (m (iLoc d))))
  td q d c i := match q with
    | 0 => (inferInstance : BI.Storable (upEmb : UEmb _ 𝕄) (tileR m d (Fin.cast nCore_zero c) (Fin.cast nSub_zero i) (vFin m d) (iFin m d)))

/-! ## The launch theorem's obligations -/

theorem defs₀_vector (c : Fin τ.nSC) (s : Fin τ.nSub) :
    defs₀ (F := F) (.scVector c s) 0 ()
      = SparseCore.onTile hcore0 hsub0 (fun c s => cc0__sc_scan (coordsV c s)
          xV (Memref.isWhole_whole _) vV (Memref.isWhole_whole _) iV (Memref.isWhole_whole _)
          b0 (Memref.isWhole_whole _) b1 (Memref.isWhole_whole _) b2 (Memref.isWhole_whole _) sv (Memref.isWhole_whole _) si (Memref.isWhole_whole _)
          cc0_scratch5 cc0_scratch6 cc0_scratch7 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := tile_body d (coordsV ⟨_, hc.1⟩ ⟨_, hc.2⟩) (qT (Fin.cast nCore_zero c) (Fin.cast nSub_zero i)) (m (xLoc d)) (m (vLoc d)) (m (iLoc d)) O W hO
  rw [set_vRow, set_iRow] at h
  exact h.trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's holding is its subcores' together. -/
theorem coreR_tiles (d : Dev nD) (c : Fin 2) (V : Buf (Elt F) (vLoc d)) (I : Buf (Elt F) (iLoc d)) :
    coreR m d c V I = bigSep Finset.univ fun i : Fin 16 => tileR m d c i V I := by
  unfold coreR tileR
  rw [bigSep_sep', bigSep_sep', xPts_tiles, vPts_rows, iPts_rows]

theorem vecSplit : (K (F := F)).VecSplit' (P m) 0 := by
  intro d c
  show coreR m d (Fin.cast nCore_zero c) (m (vLoc d)) (m (iLoc d)) ⊢ |={Set.univ}=> iprop(
      (bigSep Finset.univ fun i : Fin ((K (F := F)).nSub 0) => tileR m d (Fin.cast nCore_zero c) (Fin.cast nSub_zero i) (m (vLoc d)) (m (iLoc d)))
      ∗ ((bigSep Finset.univ fun i : Fin ((K (F := F)).nSub 0) => tileR m d (Fin.cast nCore_zero c) (Fin.cast nSub_zero i) (vFin m d) (iFin m d))
          -∗ coreR m d (Fin.cast nCore_zero c) (vFin m d) (iFin m d)))
  rw [bigSep_tasks (F := F) (fun i => tileR m d (Fin.cast nCore_zero c) i (m (vLoc d)) (m (iLoc d))),
    bigSep_tasks (F := F) (fun i => tileR m d (Fin.cast nCore_zero c) i (vFin m d) (iFin m d)), ← coreR_tiles, ← coreR_tiles]
  iintro H; imodintro
  isplitl [H]; · iexact H
  iintro H; iexact H

/-- The call takes `x` and the two outputs whole, and gives them back, the outputs written. -/
theorem st0_eq (d : Dev nD) : (bigSep Finset.univ fun c : Fin ((K (F := F)).nCore 0) => (P m).st 0 d c)
    = iprop((xLoc d ↦{fullShare} m (xLoc d)) ∗ (vLoc d ↦{fullShare} m (vLoc d)) ∗ (iLoc d ↦{fullShare} m (iLoc d))) := by
  rw [xPts_cores, vPts_cores, iPts_cores, ← bigSep_sep', ← bigSep_sep']
  exact bigSep_congr fun _ _ => rfl
theorem dn0_eq (d : Dev nD) : (bigSep Finset.univ fun c : Fin ((K (F := F)).nCore 0) => (P m).dn 0 d c)
    = iprop((xLoc d ↦{fullShare} m (xLoc d)) ∗ (vLoc d ↦{fullShare} vFin m d) ∗ (iLoc d ↦{fullShare} iFin m d)) := by
  rw [xPts_cores, vPts_cores, iPts_cores, ← bigSep_sep', ← bigSep_sep']
  exact bigSep_congr fun _ _ => rfl

end Cert.KernelIdeal.Pf
-- ==== Proof.TcVal.lean ====
/-
  What the TensorCore scan carries over one block.
-/
module

public import proofs.«01_k».proof.Proof.TileBase

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The TensorCore scan's values -/

theorem inbT (n : ℕ) : ∀ a : Fin 2, (![0, 128 * (n % 128)] : Fin 2 → ℕ) a + S16x128.size a ≤ S16x16384.size a := by
  intro a
  match a with
  | 0 => show 0 + 16 ≤ 16; decide
  | 1 => show 128 * (n % 128) + 128 ≤ 16384; omega

/-- The 16 by 128 piece of a block that step `n` loads. -/
def ldB (X : Vec F S16x16384 .f32) (n : ℕ) : Vec F S16x128 .f32 :=
  fun l => X ((Rect.unit (s := S16x16384) ![0, 128 * (n % 128)] S16x128.size (inbT n)).toLoadRect.idx l)

/-- One step of the scan at point `i`: the maxima and the flat indices carried. -/
def tcStep (i : grid1.Coords) (v : Vec F S16x128 .f32) (n : ℕ) (a : FVec F S16x128 .f32 × IVec S16x128 32) : FVec F S16x128 .f32 × IVec S16x128 32 :=
  (maximumf a.1 v, select (cmpf .ogt v a.1) (addi (k1_pay3 i) (broadcast S16x128 (BitVec.ofNat 32 (128 * n)))) a.2)

/-- The carried values after `n` steps over the pieces `ld`. -/
def tcIt (i : grid1.Coords) (ld : ℕ → Vec F S16x128 .f32) (a : FVec F S16x128 .f32 × IVec S16x128 32) : ℕ → FVec F S16x128 .f32 × IVec S16x128 32
  | 0 => a
  | n + 1 => tcStep i (ld n) n (tcIt i ld a n)

/-- The scan's test that a point is the grid's first. -/
def firstB (i : grid1.Coords) : BitVec 1 :=
  Scalar.cmpi .ne (Scalar.extui (Scalar.andi (Scalar.cmpi .eq (BitVec.ofNat 32 (i 0)) 0#32) (Scalar.cmpi .eq (BitVec.ofNat 32 (i 1)) 0#32))) 0#32

/-- What the scan starts a point from: the reset values at the first point, else what the scratch held. -/
def tcStart (i : grid1.Coords) (a : FVec F S16x128 .f32 × IVec S16x128 32) : FVec F S16x128 .f32 × IVec S16x128 32 :=
  if firstB i = 1#1 then (k1_pay1, k1_pay2) else a

/-- What the scan leaves in the two scratch buffers after a point whose block is `X`. -/
def tcNext (i : grid1.Coords) (X : Vec F S16x16384 .f32) (a : FVec F S16x128 .f32 × IVec S16x128 32) : FVec F S16x128 .f32 × IVec S16x128 32 :=
  tcIt i (ldB X) (tcStart i a) 128

end Cert.KernelIdeal.Pf
-- ==== Proof.TcRun.lean ====
/-
  The TensorCore scan's body, run once for every grid point.
-/
module

public import proofs.«01_k».proof.Proof.TcVal
public import Idealize.ShloMosaic.Lib.VecWindow
public import Idealize.ShloMosaic.Lib.Pipeline.Value

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Memref `M`'s buffer on core `c`, held whole at `f`. -/
abbrev pt (c : Dev nD) {sp : Space} {S : Shape} {e : EltTy} (M : Memref sig .tc sp S e) (f : Buf (Elt F) (M.view.loc (T c : Thread nD τ))) : sProp 𝕄 :=
  M.view.loc (T c : Thread nD τ) ↦{fullShare} f

set_option maxHeartbeats 2000000 in
/-- The scan's body at point `i`: the staged block stays; the scratch buffers advance over it; the two outputs take
    the scratch's values at the last point and stay as they were elsewhere. -/
theorem tc_run (c : Dev nD) (i : grid1.Coords) (M2 : Memref sig .tc .vmem S16x16384 .f32) (h2 : M2.IsWhole) (M3 : Memref sig .tc .vmem S16x128 .f32) (h3 : M3.IsWhole)
    (M4 : Memref sig .tc .vmem S16x128 .i32) (h4 : M4.IsWhole)
    (f2 : Buf (Elt F) (M2.view.loc (T c))) (f3 : Buf (Elt F) (M3.view.loc (T c))) (f4 : Buf (Elt F) (M4.view.loc (T c)))
    (f5 : Buf (Elt F) ((Memref.whole cc1_scratch0).view.loc (T c))) (f6 : Buf (Elt F) ((Memref.whole cc1_scratch1).view.loc (T c))) (Q : PUnit → sProp 𝕄) :
    iprop(pt c M2 f2 ∗ pt c M3 f3 ∗ pt c M4 f4 ∗ pt c (Memref.whole cc1_scratch0) f5 ∗ pt c (Memref.whole cc1_scratch1) f6
        ∗ (iprop(pt c M2 f2
            ∗ (∃ g3, ⌜M3.view.read (Elt F) g3 = if k1_cond2 i = 1#1 then (tcNext i (M2.view.read (Elt F) f2) (f5, f6)).1 else M3.view.read (Elt F) f3⌝ ∗ pt c M3 g3)
            ∗ (∃ g4, ⌜M4.view.read (Elt F) g4 = if k1_cond2 i = 1#1 then (tcNext i (M2.view.read (Elt F) f2) (f5, f6)).2 else M4.view.read (Elt F) f4⌝ ∗ pt c M4 g4)
            ∗ pt c (Memref.whole cc1_scratch0) (tcNext i (M2.view.read (Elt F) f2) (f5, f6)).1
            ∗ pt c (Memref.whole cc1_scratch1) (tcNext i (M2.view.read (Elt F) f2) (f5, f6)).2) -∗ Q ⟨⟩))
      ⊢ wp frame (wpE (defs₀ (F := F)) 𝒱₀ (T c) none) Set.univ
        (cc1__tc_scan_body i M2 h2 M3 h3 M4 h4 (Memref.whole cc1_scratch0) (Memref.isWhole_whole _) (Memref.whole cc1_scratch1) (Memref.isWhole_whole _)) Q := by
  iintro ⟨H2, H3, H4, H5, H6, Hk⟩
  sl_exec!
  sl_step
  obtain ⟨ld, hld⟩ : ∃ ld, ld = ldB (F := F) (M2.view.read (Elt F) f2) := ⟨_, rfl⟩
  obtain ⟨a, ha⟩ : ∃ a, a = tcStart (F := F) i (f5, f6) := ⟨_, rfl⟩
  have e16 : tc_run.sl.v16 c i f5 = a.1 := by
    delta tc_run.sl.v16; rw [ha, tcStart]
    refine (View.readAt_full (Memref.whole cc1_scratch0).view _ inb_S16x128_S16x128_0_0).trans ?_
    by_cases h : firstB i = 1#1
    · rw [dif_pos (show tc_run.sl.v4 i = 1#1 from h), if_pos h]; exact View.read_writes_full _ _ _ _ _
    · rw [dif_neg (show ¬ tc_run.sl.v4 i = 1#1 from h), if_neg h]; rfl
  have e17 : tc_run.sl.v17 c i f6 = a.2 := by
    delta tc_run.sl.v17; rw [ha, tcStart]
    refine (View.readAt_full (Memref.whole cc1_scratch1).view _ inb_S16x128_S16x128_0_0).trans ?_
    by_cases h : firstB i = 1#1
    · rw [dif_pos (show tc_run.sl.v4 i = 1#1 from h), if_pos h]; exact View.read_writes_full _ _ _ _ _
    · rw [dif_neg (show ¬ tc_run.sl.v4 i = 1#1 from h), if_neg h]; rfl
  subst hld
  have e0 : tc_run.sl.r c i M2 f2 f5 = (tcIt i (ldB (M2.view.read (Elt F) f2)) a 3).1 := by delta tc_run.sl.r; rw [e16]; rfl
  have e1 : tc_run.sl.r_1 c i M2 f2 f5 f6 = (tcIt i (ldB (M2.view.read (Elt F) f2)) a 3).2 := by delta tc_run.sl.r_1; rw [e16, e17]; rfl
  have e2 : tc_run.sl.r_2 c i M2 f2 f5 f6 = (tcIt i (ldB (M2.view.read (Elt F) f2)) a 9).2 := by delta tc_run.sl.r_2; rw [e0, e1]; rfl
  have e3 : tc_run.sl.r_3 c i M2 f2 f5 = cmpf .ogt (ldB (M2.view.read (Elt F) f2) 9) (tcIt i (ldB (M2.view.read (Elt F) f2)) a 9).1 := by delta tc_run.sl.r_3; rw [e0]; rfl
  have e4 : tc_run.sl.r_4 c i M2 f2 f5 = (tcIt i (ldB (M2.view.read (Elt F) f2)) a 10).1 := by delta tc_run.sl.r_4; rw [e0]; rfl
  have e5 : tc_run.sl.r_5 c i M2 f2 f5 = (tcIt i (ldB (M2.view.read (Elt F) f2)) a 16).1 := by delta tc_run.sl.r_5; rw [e4]; rfl
  have e6 : tc_run.sl.r_6 c i M2 f2 f5 f6 = (tcIt i (ldB (M2.view.read (Elt F) f2)) a 16).2 := by delta tc_run.sl.r_6; rw [e2, e3, e4]; rfl
  have e7 : tc_run.sl.r_7 c M2 f2 = (ldB (M2.view.read (Elt F) f2)) 16 := by delta tc_run.sl.r_7; rfl
  have e8 : tc_run.sl.r_8 c i M2 f2 f5 = cmpf .ogt (ldB (M2.view.read (Elt F) f2) 16) (tcIt i (ldB (M2.view.read (Elt F) f2)) a 16).1 := by delta tc_run.sl.r_8; rw [e4]; rfl
  have e9 : tc_run.sl.r_9 c i M2 f2 f5 = (tcIt i (ldB (M2.view.read (Elt F) f2)) a 23).1 := by delta tc_run.sl.r_9; rw [e5, e7]; rfl
  have e10 : tc_run.sl.r_10 c i M2 f2 f5 f6 = (tcIt i (ldB (M2.view.read (Elt F) f2)) a 23).2 := by delta tc_run.sl.r_10; rw [e5, e6, e7, e8]; rfl
  have e11 : tc_run.sl.r_11 c i M2 f2 f5 f6 = (tcIt i (ldB (M2.view.read (Elt F) f2)) a 29).2 := by delta tc_run.sl.r_11; rw [e9, e10]; rfl
  have e12 : tc_run.sl.r_12 c i M2 f2 f5 = cmpf .ogt (ldB (M2.view.read (Elt F) f2) 29) (tcIt i (ldB (M2.view.read (Elt F) f2)) a 29).1 := by delta tc_run.sl.r_12; rw [e9]; rfl
  have e13 : tc_run.sl.r_13 c i M2 f2 f5 = (tcIt i (ldB (M2.view.read (Elt F) f2)) a 30).1 := by delta tc_run.sl.r_13; rw [e9]; rfl
  have e14 : tc_run.sl.r_14 c i M2 f2 f5 = (tcIt i (ldB (M2.view.read (Elt F) f2)) a 36).1 := by delta tc_run.sl.r_14; rw [e13]; rfl
  have e15 : tc_run.sl.r_15 c i M2 f2 f5 f6 = (tcIt i (ldB (M2.view.read (Elt F) f2)) a 36).2 := by delta tc_run.sl.r_15; rw [e11, e12, e13]; rfl
  have e16 : tc_run.sl.r_16 c M2 f2 = (ldB (M2.view.read (Elt F) f2)) 36 := by delta tc_run.sl.r_16; rfl
  have e17 : tc_run.sl.r_17 c i M2 f2 f5 = cmpf .ogt (ldB (M2.view.read (Elt F) f2) 36) (tcIt i (ldB (M2.view.read (Elt F) f2)) a 36).1 := by delta tc_run.sl.r_17; rw [e13]; rfl
  have e18 : tc_run.sl.r_18 c i M2 f2 f5 = (tcIt i (ldB (M2.view.read (Elt F) f2)) a 43).1 := by delta tc_run.sl.r_18; rw [e14, e16]; rfl
  have e19 : tc_run.sl.r_19 c i M2 f2 f5 f6 = (tcIt i (ldB (M2.view.read (Elt F) f2)) a 43).2 := by delta tc_run.sl.r_19; rw [e14, e15, e16, e17]; rfl
  have e20 : tc_run.sl.r_20 c i M2 f2 f5 f6 = (tcIt i (ldB (M2.view.read (Elt F) f2)) a 49).2 := by delta tc_run.sl.r_20; rw [e18, e19]; rfl
  have e21 : tc_run.sl.r_21 c i M2 f2 f5 = cmpf .ogt (ldB (M2.view.read (Elt F) f2) 49) (tcIt i (ldB (M2.view.read (Elt F) f2)) a 49).1 := by delta tc_run.sl.r_21; rw [e18]; rfl
  have e22 : tc_run.sl.r_22 c i M2 f2 f5 = (tcIt i (ldB (M2.view.read (Elt F) f2)) a 50).1 := by delta tc_run.sl.r_22; rw [e18]; rfl
  have e23 : tc_run.sl.r_23 c i M2 f2 f5 = (tcIt i (ldB (M2.view.read (Elt F) f2)) a 56).1 := by delta tc_run.sl.r_23; rw [e22]; rfl
  have e24 : tc_run.sl.r_24 c i M2 f2 f5 f6 = (tcIt i (ldB (M2.view.read (Elt F) f2)) a 56).2 := by delta tc_run.sl.r_24; rw [e20, e21, e22]; rfl
  have e25 : tc_run.sl.r_25 c M2 f2 = (ldB (M2.view.read (Elt F) f2)) 56 := by delta tc_run.sl.r_25; rfl
  have e26 : tc_run.sl.r_26 c i M2 f2 f5 = cmpf .ogt (ldB (M2.view.read (Elt F) f2) 56) (tcIt i (ldB (M2.view.read (Elt F) f2)) a 56).1 := by delta tc_run.sl.r_26; rw [e22]; rfl
  have e27 : tc_run.sl.r_27 c i M2 f2 f5 = (tcIt i (ldB (M2.view.read (Elt F) f2)) a 63).1 := by delta tc_run.sl.r_27; rw [e23, e25]; rfl
  have e28 : tc_run.sl.r_28 c i M2 f2 f5 f6 = (tcIt i (ldB (M2.view.read (Elt F) f2)) a 63).2 := by delta tc_run.sl.r_28; rw [e23, e24, e25, e26]; rfl
  have e29 : tc_run.sl.r_29 c i M2 f2 f5 f6 = (tcIt i (ldB (M2.view.read (Elt F) f2)) a 69).2 := by delta tc_run.sl.r_29; rw [e27, e28]; rfl
  have e30 : tc_run.sl.r_30 c i M2 f2 f5 = cmpf .ogt (ldB (M2.view.read (Elt F) f2) 69) (tcIt i (ldB (M2.view.read (Elt F) f2)) a 69).1 := by delta tc_run.sl.r_30; rw [e27]; rfl
  have e31 : tc_run.sl.r_31 c i M2 f2 f5 = (tcIt i (ldB (M2.view.read (Elt F) f2)) a 70).1 := by delta tc_run.sl.r_31; rw [e27]; rfl
  have e32 : tc_run.sl.r_32 c i M2 f2 f5 = (tcIt i (ldB (M2.view.read (Elt F) f2)) a 76).1 := by delta tc_run.sl.r_32; rw [e31]; rfl
  have e33 : tc_run.sl.r_33 c i M2 f2 f5 f6 = (tcIt i (ldB (M2.view.read (Elt F) f2)) a 76).2 := by delta tc_run.sl.r_33; rw [e29, e30, e31]; rfl
  have e34 : tc_run.sl.r_34 c M2 f2 = (ldB (M2.view.read (Elt F) f2)) 76 := by delta tc_run.sl.r_34; rfl
  have e35 : tc_run.sl.r_35 c i M2 f2 f5 = cmpf .ogt (ldB (M2.view.read (Elt F) f2) 76) (tcIt i (ldB (M2.view.read (Elt F) f2)) a 76).1 := by delta tc_run.sl.r_35; rw [e31]; rfl
  have e36 : tc_run.sl.r_36 c i M2 f2 f5 = (tcIt i (ldB (M2.view.read (Elt F) f2)) a 83).1 := by delta tc_run.sl.r_36; rw [e32, e34]; rfl
  have e37 : tc_run.sl.r_37 c i M2 f2 f5 f6 = (tcIt i (ldB (M2.view.read (Elt F) f2)) a 83).2 := by delta tc_run.sl.r_37; rw [e32, e33, e34, e35]; rfl
  have e38 : tc_run.sl.r_38 c i M2 f2 f5 f6 = (tcIt i (ldB (M2.view.read (Elt F) f2)) a 89).2 := by delta tc_run.sl.r_38; rw [e36, e37]; rfl
  have e39 : tc_run.sl.r_39 c i M2 f2 f5 = cmpf .ogt (ldB (M2.view.read (Elt F) f2) 89) (tcIt i (ldB (M2.view.read (Elt F) f2)) a 89).1 := by delta tc_run.sl.r_39; rw [e36]; rfl
  have e40 : tc_run.sl.r_40 c i M2 f2 f5 = (tcIt i (ldB (M2.view.read (Elt F) f2)) a 90).1 := by delta tc_run.sl.r_40; rw [e36]; rfl
  have e41 : tc_run.sl.r_41 c i M2 f2 f5 = (tcIt i (ldB (M2.view.read (Elt F) f2)) a 96).1 := by delta tc_run.sl.r_41; rw [e40]; rfl
  have e42 : tc_run.sl.r_42 c i M2 f2 f5 f6 = (tcIt i (ldB (M2.view.read (Elt F) f2)) a 96).2 := by delta tc_run.sl.r_42; rw [e38, e39, e40]; rfl
  have e43 : tc_run.sl.r_43 c M2 f2 = (ldB (M2.view.read (Elt F) f2)) 96 := by delta tc_run.sl.r_43; rfl
  have e44 : tc_run.sl.r_44 c i M2 f2 f5 = cmpf .ogt (ldB (M2.view.read (Elt F) f2) 96) (tcIt i (ldB (M2.view.read (Elt F) f2)) a 96).1 := by delta tc_run.sl.r_44; rw [e40]; rfl
  have e45 : tc_run.sl.r_45 c i M2 f2 f5 = (tcIt i (ldB (M2.view.read (Elt F) f2)) a 103).1 := by delta tc_run.sl.r_45; rw [e41, e43]; rfl
  have e46 : tc_run.sl.r_46 c i M2 f2 f5 f6 = (tcIt i (ldB (M2.view.read (Elt F) f2)) a 103).2 := by delta tc_run.sl.r_46; rw [e41, e42, e43, e44]; rfl
  have e47 : tc_run.sl.r_47 c i M2 f2 f5 f6 = (tcIt i (ldB (M2.view.read (Elt F) f2)) a 109).2 := by delta tc_run.sl.r_47; rw [e45, e46]; rfl
  have e48 : tc_run.sl.r_48 c i M2 f2 f5 = cmpf .ogt (ldB (M2.view.read (Elt F) f2) 109) (tcIt i (ldB (M2.view.read (Elt F) f2)) a 109).1 := by delta tc_run.sl.r_48; rw [e45]; rfl
  have e49 : tc_run.sl.r_49 c i M2 f2 f5 = (tcIt i (ldB (M2.view.read (Elt F) f2)) a 110).1 := by delta tc_run.sl.r_49; rw [e45]; rfl
  have e50 : tc_run.sl.r_50 c i M2 f2 f5 = (tcIt i (ldB (M2.view.read (Elt F) f2)) a 116).1 := by delta tc_run.sl.r_50; rw [e49]; rfl
  have e51 : tc_run.sl.r_51 c i M2 f2 f5 f6 = (tcIt i (ldB (M2.view.read (Elt F) f2)) a 116).2 := by delta tc_run.sl.r_51; rw [e47, e48, e49]; rfl
  have e52 : tc_run.sl.r_52 c M2 f2 = (ldB (M2.view.read (Elt F) f2)) 116 := by delta tc_run.sl.r_52; rfl
  have e53 : tc_run.sl.r_53 c i M2 f2 f5 = cmpf .ogt (ldB (M2.view.read (Elt F) f2) 116) (tcIt i (ldB (M2.view.read (Elt F) f2)) a 116).1 := by delta tc_run.sl.r_53; rw [e49]; rfl
  have e54 : tc_run.sl.r_54 c i M2 f2 f5 = (tcIt i (ldB (M2.view.read (Elt F) f2)) a 123).1 := by delta tc_run.sl.r_54; rw [e50, e52]; rfl
  have e55 : tc_run.sl.r_55 c i M2 f2 f5 f6 = (tcIt i (ldB (M2.view.read (Elt F) f2)) a 123).2 := by delta tc_run.sl.r_55; rw [e50, e51, e52, e53]; rfl
  have e56 : tc_run.sl.r_56 c i M2 f2 f5 = (tcIt i (ldB (M2.view.read (Elt F) f2)) a 128).1 := by delta tc_run.sl.r_56; rw [e54]; rfl
  have e57 : tc_run.sl.r_57 c i M2 f2 f5 f6 = (tcIt i (ldB (M2.view.read (Elt F) f2)) a 128).2 := by delta tc_run.sl.r_57; rw [e54, e55]; rfl
  have e5 : (tcNext (F := F) i (M2.view.read (Elt F) f2) (f5, f6)).1 = tc_run.sl.r_56 c i M2 f2 f5 := by rw [e56, ha]; rfl
  have e6 : (tcNext (F := F) i (M2.view.read (Elt F) f2) (f5, f6)).2 = tc_run.sl.r_57 c i M2 f2 f5 f6 := by rw [e57, ha]; rfl
  have w5 : (Memref.whole cc1_scratch0).view.writes (Elt F) (Memref.whole cc1_scratch0).view.junk (tc_run.sl.H5_1 c i M2 f2 f5) = tc_run.sl.r_56 c i M2 f2 f5 := by
    delta tc_run.sl.H5_1
    refine (View.read_whole _ _).symm.trans ((View.read_writes_full _ _ _ _ _).trans ?_)
    exact shapeCast_self _ _
  have w6 : (Memref.whole cc1_scratch1).view.writes (Elt F) (Memref.whole cc1_scratch1).view.junk (tc_run.sl.H6_1 c i M2 f2 f5 f6) = tc_run.sl.r_57 c i M2 f2 f5 f6 := by
    delta tc_run.sl.H6_1
    refine (View.read_whole _ _).symm.trans ((View.read_writes_full _ _ _ _ _).trans ?_)
    exact shapeCast_self _ _
  rw [w5, w6, e5, e6]
  iapply Hk
  isplitl [H2]; · iexact H2
  isplitl [H3]
  · iexists _
    isplitr; swap; (· iexact H3); ipureintro
    split
    · exact View.read_writes_full _ _ _ _ _
    · rfl
  isplitl [H4]
  · iexists _
    isplitr; swap; (· iexact H4); ipureintro
    split
    · exact View.read_writes_full _ _ _ _ _
    · rfl
  isplitl [H5]; · iexact H5
  iexact H6

end Cert.KernelIdeal.Pf
-- ==== Proof.RegBase.lean ====
/-
  What the two TensorCore regions' proofs share.
-/
module

public import proofs.«01_k».proof.Proof.TcRun
public import proofs.«01_k».proof.Proof.Gen.KernelIdeal.Launch

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (Dat Cfg Window BodyObligation)
open Idealize.ShloMosaic.TcCoe

/-! ## What both regions share -/

/-- Proof data for a pipeline that an entry does not run: anything. -/
def anyDat {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The pairs the core's waits may have recorded: those at a level of at most `lim`. -/
def recd (lim : ℕ) (c : Dev nD) : Set (SemLoc sig × HIx 1) := { p | (K (F := F)).lev ((T c : Thread nD τ), p.1) p.2 ≤ lim }

/-- The core owing nothing, its recorded pairs at a level of at most `lim`. -/
def owesNone (lim : ℕ) (c : Dev nD) : sProp 𝕄 :=
  iprop(∃ W, ⌜(K (F := F)).WBelow (T c) W lim⌝ ∗ owes (T c : Thread nD τ) (0 : CellTallies nD τ sig (HIx 1)) W)

/-- A whole memref's contents owned are its buffer held whole. -/
theorem owns_isWhole (c : Dev nD) {sp : Space} {S : Shape} {e : EltTy} {M : Memref sig .tc sp S e} (h : M.IsWhole) (X : S.Idx → Elt F e) :
    (owns (T c : Thread nD τ) M fullShare X : sProp 𝕄) = iprop(∃ f, ⌜M.view.read (Elt F) f = X⌝ ∗ pt c M f) := by
  obtain ⟨b, rfl, rfl, rfl, hh⟩ := h
  cases hh
  unfold owns
  simp only [Memref.view_whole, View.set_whole]

theorem owns_open (c : Dev nD) {sp : Space} {S : Shape} {e : EltTy} {M : Memref sig .tc sp S e} (h : M.IsWhole) (X : S.Idx → Elt F e) :
    (owns (T c : Thread nD τ) M fullShare X : sProp 𝕄) ⊢ ∃ f, ⌜M.view.read (Elt F) f = X⌝ ∗ pt c M f := by
  rw [owns_isWhole c h]

theorem owns_close (c : Dev nD) {sp : Space} {S : Shape} {e : EltTy} {M : Memref sig .tc sp S e} (h : M.IsWhole) (X : S.Idx → Elt F e) (f : Buf (Elt F) (M.view.loc (T c)))
    (hf : M.view.read (Elt F) f = X) : pt c M f ⊢ (owns (T c : Thread nD τ) M fullShare X : sProp 𝕄) := by
  rw [owns_isWhole c h]
  iintro H
  iexists f
  isplitr
  · ipureintro; exact hf
  · iexact H

/-- From what a region's loop holds of the core's `owes` to the form kept between regions, and back. -/
theorem owesNone_of {cfg : Pipeline.Cfg sig Λ₀} (lim : ℕ) (c : Dev nD) (dat : Dat τ (Elt F) (HIx 1) ℕ UU ℕ cfg c) (t : Fin (cfg.N + 1))
    (ho : dat.owed t = 0) (hr : dat.recorded t = recd (F := F) lim c) : dat.owesAt (none : HIx 1) t ⊢ owesNone (F := F) lim c := by
  unfold Dat.owesAt Pipeline.owesWithin owesNone Dat.bound
  rw [ho, hr]
  iintro ⟨%W, %hW, HO⟩
  iexists W
  isplitr
  · ipureintro
    intro p hp
    rcases hW hp with h | ⟨w, s, h⟩
    · exact h
    · have h2 : p.2 = none := by rw [h]
      rw [h2]; exact Nat.zero_le _
  · iexact HO

theorem owesNone_to {cfg : Pipeline.Cfg sig Λ₀} (lim : ℕ) (c : Dev nD) (dat : Dat τ (Elt F) (HIx 1) ℕ UU ℕ cfg c) (t : Fin (cfg.N + 1))
    (ho : dat.owed t = 0) (hr : dat.recorded t = recd (F := F) lim c) : owesNone (F := F) lim c ⊢ dat.owesAt (none : HIx 1) t := by
  unfold Dat.owesAt Pipeline.owesWithin owesNone Dat.bound
  rw [ho, hr]
  iintro ⟨%W, %hW, HO⟩
  iexists W
  isplitr
  · ipureintro; exact fun p hp => Or.inl (hW p hp)
  · iexact HO

end Cert.KernelIdeal.Pf
-- ==== Proof.Reg1.lean ====
/-
  The scan's region: ten grid points over the rows that the TensorCore scans.
-/
module

public import proofs.«01_k».proof.Proof.RegBase
public import proofs.«01_k».proof.Proof.Gen.KernelIdeal.Points
public import Idealize.ShloMosaic.Lib.Pipeline.RegionsLoop

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (Dat Cfg Window BodyObligation)
open Idealize.ShloMosaic.TcCoe

/-! ## The scan's region -/

namespace R1

variable (V : (c : Dev nD) → (b : Ref sig .tc) → Buf (Elt F) ((T c : Thread nD τ).loc b)) (lim : ℕ)

/-- The block of `x` that the fetch at point `t` stages. -/
abbrev stg (c : Dev nD) (t : Fin cfg1.N) : (cfg1.win 0).block.Idx → Elt F (cfg1.win 0).elt :=
  ((cfg1.win 0).blk t).view.read (Elt F) (V c main_arg0)

/-- What the two scratch buffers hold after `n` points. -/
def scr (c : Dev nD) : ℕ → FVec F S16x128 .f32 × IVec S16x128 32
  | 0 => (k1_pay1, k1_pay2)
  | n + 1 => if h : n < cfg1.N then tcNext (grid1.coords ⟨n, h⟩) (stg V c ⟨n, h⟩) (scr c n) else scr c n

theorem scr_succ (c : Dev nD) (t : Fin cfg1.N) : scr V c (t.val + 1) = tcNext (grid1.coords t) (stg V c t) (scr V c t.val) := dif_pos t.isLt

theorem first_of_zero (t : Fin cfg1.N) (h : t.val = 0) : firstB (grid1.coords t) = 1#1 :=
  (by decide +kernel : ∀ t : Fin grid1.N, t.val = 0 → firstB (grid1.coords t) = 1#1) t h

theorem cond2_iff : ∀ t : Fin cfg1.N, k1_cond2 (grid1.coords t) = 1#1 ↔ t.val = 9 :=
  (by decide +kernel : ∀ t : Fin grid1.N, k1_cond2 (grid1.coords t) = 1#1 ↔ t.val = 9)

/-- What the scratch held before the first point does not matter. -/
theorem tcNext_first (i : grid1.Coords) (h : firstB i = 1#1) (X : Vec F S16x16384 .f32) (a b : FVec F S16x128 .f32 × IVec S16x128 32) : tcNext i X a = tcNext i X b := by
  unfold tcNext tcStart; rw [if_pos h, if_pos h]

/-- The scratch buffers before point `t`: anything at the first, else at what the points so far left. -/
def scrAt (c : Dev nD) (n : ℕ) : sProp 𝕄 :=
  iprop(∃ f5 f6, ⌜n ≠ 0 → (f5, f6) = scr V c n⌝ ∗ pt c (Memref.whole cc1_scratch0) f5 ∗ pt c (Memref.whole cc1_scratch1) f6)

/-- The other region's staging buffers, which this one does not touch. -/
def rest (c : Dev nD) : sProp 𝕄 :=
  iprop((∃ f : Buf (Elt F) ((T c : Thread nD τ).loc cc2_stg0_0), ((T c : Thread nD τ).loc cc2_stg0_0) ↦{fullShare} f)
    ∗ (∃ f : Buf (Elt F) ((T c : Thread nD τ).loc cc2_stg1_0), ((T c : Thread nD τ).loc cc2_stg1_0) ↦{fullShare} f)
    ∗ (∃ f : Buf (Elt F) ((T c : Thread nD τ).loc cc2_stg2_0), ((T c : Thread nD τ).loc cc2_stg2_0) ↦{fullShare} f)
    ∗ (∃ f : Buf (Elt F) ((T c : Thread nD τ).loc cc2_stg3_0), ((T c : Thread nD τ).loc cc2_stg3_0) ↦{fullShare} f)
    ∗ (∃ f : Buf (Elt F) ((T c : Thread nD τ).loc cc2_stg4_0), ((T c : Thread nD τ).loc cc2_stg4_0) ↦{fullShare} f))

def dat (c : Dev nD) : Dat τ (Elt F) (HIx 1) ℕ UU ℕ cfg1 c where
  A w := V c (Pipeline.arrRef spec1 w)
  after w t := match w with
    | ⟨0, _⟩ => stg V c t
    | ⟨1, _⟩ => (scr V c 10).1
    | ⟨2, _⟩ => (scr V c 10).2
  Φ t := iprop(scrAt V c t.val ∗ rest c)
  q _ := fullShare
  owed _ := 0
  recorded _ := recd (F := F) lim c

theorem before_in (c : Dev nD) (t : Fin cfg1.N) (d : (cfg1.win 0).block.Idx → Elt F (cfg1.win 0).elt) : (dat V lim c).before 0 t d = stg V c t := by
  unfold Dat.before; rw [if_pos (fetch1_0 t)]; rfl

theorem body_obligation (c : Dev nD) : BodyObligation (dat V lim c) (defs₀ (F := F)) 𝒱₀ none Set.univ := fun t => by
  rw [bigSep_W1, bigSep_W1]
  show _ ⊢ wp frame _ _ (bodyAt1 t) _
  rw [show (dat V lim c).Φ t.castSucc = iprop(scrAt V c t.val ∗ rest c) from rfl, show (dat V lim c).Φ t.succ = iprop(scrAt V c (t.val + 1) ∗ rest c) from rfl,
    show (dat V lim c).owesAt (none : HIx 1) t.succ = (dat V lim c).owesAt (none : HIx 1) t.castSucc from rfl]
  simp only [before_in]
  iintro ⟨⟨Hs, Hr⟩, Ho, ⟨%d0, H0⟩, ⟨%d1, H1⟩, ⟨%d2, H2⟩⟩
  ihave H0 := (owns_open c (stage_whole1 0 (cfg1.slots t 0)) _) $$ H0
  ihave H1 := (owns_open c (stage_whole1 1 (cfg1.slots t 1)) _) $$ H1
  ihave H2 := (owns_open c (stage_whole1 2 (cfg1.slots t 2)) _) $$ H2
  icases H0 with ⟨%f0, %e0, H0⟩
  icases H1 with ⟨%f1, %e1, H1⟩
  icases H2 with ⟨%f2, %e2, H2⟩
  unfold scrAt
  icases Hs with ⟨%f5, %f6, %e5, H5, H6⟩
  iapply (tc_run c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) f0 f1 f2 f5 f6 _) $$ [H0 H1 H2 H5 H6 Hr Ho]
  have eN : tcNext (grid1.coords t) ((win1_0.stage (cfg1.slots t 0)).view.read (Elt F) f0) (f5, f6) = scr V c (t.val + 1) := by
    rw [scr_succ, ← e0]
    by_cases h0 : t.val = 0
    · exact tcNext_first _ (first_of_zero t h0) _ _ _
    · rw [← e5 h0]
  rw [eN]
  isplitl [H0]
  · iexact H0
  isplitl [H1]
  · iexact H1
  isplitl [H2]
  · iexact H2
  isplitl [H5]
  · iexact H5
  isplitl [H6]
  · iexact H6
  iintro ⟨H0, ⟨%g1, %e1', H1⟩, ⟨%g2, %e2', H2⟩, H5, H6⟩
  isplitl [H5 H6 Hr]
  · isplitl [H5 H6]
    · iexists (scr V c (t.val + 1)).1, (scr V c (t.val + 1)).2
      isplitr
      · ipureintro; exact fun _ => rfl
      isplitl [H5]
      · iexact H5
      · iexact H6
    · iexact Hr
  isplitl [Ho]
  · iexact Ho
  isplitl [H0]
  · iapply (owns_close c (stage_whole1 0 (cfg1.slots t 0)) _ _ e0) $$ H0
  by_cases h9 : t.val = 9
  · have hc : k1_cond2 (grid1.coords t) = 1#1 := (cond2_iff t).2 h9
    rw [if_pos hc] at e1' e2'
    rw [show idle1 1 (grid1.coords t) = false from congrArg (fun b => !b) (decide_eq_true hc)]
    dsimp only
    rw [h9] at e1' e2'
    isplitl [H1]
    · iapply (owns_close c (stage_whole1 1 (cfg1.slots t 1)) _ _ e1') $$ H1
    · iapply (owns_close c (stage_whole1 2 (cfg1.slots t 2)) _ _ e2') $$ H2
  · have hc : ¬ k1_cond2 (grid1.coords t) = 1#1 := fun h => h9 ((cond2_iff t).1 h)
    rw [if_neg hc] at e1' e2'
    have hN : t.val < 10 := t.isLt
    rw [show idle1 1 (grid1.coords t) = true from congrArg (fun b => !b) (decide_eq_false hc),
      show (win1 1).flush t = false from Bool.eq_false_iff.2 fun h => by have := (flush1_1 t).1 h; omega, show (win1 2).flush t = false from Bool.eq_false_iff.2 fun h => by have := (flush1_2 t).1 h; omega]
    dsimp only
    isplitl [H1]
    · iexists d1
      iapply (owns_close c (stage_whole1 1 (cfg1.slots t 1)) _ _ (e1'.trans e1)) $$ H1
    · iexists d2
      iapply (owns_close c (stage_whole1 2 (cfg1.slots t 2)) _ _ (e2'.trans e2)) $$ H2

variable (adm : (p : Fin 2) → (pcfgs (F := F) p).Adm)

/-- The proof data of both pipelines while this region runs. -/
def pdats : (p : Fin 2) → (c : Dev nD) → Dat τ (Elt F) (HIx 1) ℕ UU ℕ (Pipeline.pin (pcfgs (F := F)) adm p) c
  | ⟨0, _⟩ => dat V lim
  | ⟨1, _⟩ => fun c => anyDat c

variable (Vp : (c : Dev nD) → (b : Ref sig .tc) → Buf (Elt F) ((T c : Thread nD τ).loc b))

set_option backward.isDefEq.respectTransparency.types false in
/-- The region: it takes the buffers at `V` to the buffers at `Vp`, which differs from `V` at the two results. -/
def reg (h1 : ∀ c, Vp c main_v1_0 = (dat V lim c).arrAt 1 cfg1.N) (h2 : ∀ c, Vp c main_v1_1 = (dat V lim c).arrAt 2 cfg1.N)
    (hne : ∀ c (b : Ref sig .tc), b ≠ main_v1_0 → b ≠ main_v1_1 → Vp c b = V c b) :
    Pipeline.RegionSeg (pcfgs (F := F)) adm (pdats V lim adm) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V lim c).loose
  hwaits := Pipeline.hwaits_of_owed_zero _ _ _ _ (K (F := F)).L (K (F := F)).lev 0 fun _ _ => rfl
  pre c := iprop(unscopedBufs c (V c) ∗ owesNone (F := F) lim c)
  post c := iprop(unscopedBufs c (Vp c) ∗ owesNone (F := F) lim c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V lim adm) launch1.win launch1.arr_whole c
      ((pdats V lim adm 0 c).share_full fun _ => rfl) (V c) fun _ => rfl
    iintro ⟨⟨Hub, HO⟩, -, -⟩
    ihave H := hsplit $$ Hub
    icases H with ⟨Ha, Hrest⟩
    imodintro
    isplitl [Ha]
    · iexact Ha
    isplitr
    · unfold Pipeline.prefHeld
      rw [show (Finset.univ : Finset (Fin 0)) = ∅ from rfl, BI.bigSep_empty]
      iempintro
    isplitl [HO]
    · iapply (owesNone_to lim c (dat V lim c) 0 rfl rfl) $$ HO
    isplitr
    · iempintro
    · iexact Hrest
  hin c := by
    rw [show (pdats V lim adm 0 c).Φ 0 = iprop(scrAt V c 0 ∗ rest c) from rfl]
    rw [show Pipeline.scopedRest (Pipeline.pin (pcfgs (F := F)) adm 0).spec c = _ from scopedRest1_eq c]
    unfold scrAt rest
    iintro ⟨-, -, ⟨%f5, H5⟩, ⟨%f6, H6⟩, Hr⟩
    isplitl [H5 H6]
    · iexists f5, f6
      isplitr
      · ipureintro; exact fun h => absurd rfl h
      isplitl [H5]
      · iexact H5
      · iexact H6
    · iexact Hr
  hout c := by
    rw [Pipeline.ownSems0_none, show (pdats V lim adm 0 c).Φ (Fin.last _) = iprop(scrAt V c cfg1.N ∗ rest c) from rfl]
    rw [show Pipeline.scopedRest (Pipeline.pin (pcfgs (F := F)) adm 0).spec c = _ from scopedRest1_eq c]
    unfold scrAt rest
    iintro ⟨⟨%f5, %f6, -, H5, H6⟩, Hr⟩
    isplitr
    · iempintro
    isplitr
    · iempintro
    isplitl [H5]
    · iexists f5; iexact H5
    isplitl [H6]
    · iexists f6; iexact H6
    · iexact Hr
  hexit c := by
    have hjoin := Pipeline.unscopedBufs_of_arrays (p := 0) (pcfgs (F := F)) adm (Ix := HIx 1) (Name := ℕ) (U := UU) (Lvl := ℕ) launch1.win launch1.arr_whole c
      (pdats V lim adm) ((pdats V lim adm 0 c).share_full fun _ => rfl) (V c) (Vp c) ((pdats V lim adm 0 c).arrAt · cfg1.N)
      (fun w => by
        fin_cases w
        · exact ((pdats V lim adm 0 c).arrAt_in 0 rfl _).trans (hne c main_arg0 (by decide) (by decide)).symm
        · exact (h1 c).symm
        · exact (h2 c).symm)
      (fun b hb => hne c b (fun h => hb (h ▸ Finset.mem_image.mpr ⟨1, Finset.mem_univ _, rfl⟩)) (fun h => hb (h ▸ Finset.mem_image.mpr ⟨2, Finset.mem_univ _, rfl⟩)))
    iintro ⟨Ha, HO, -, Hrest⟩
    imodintro
    isplitl [Ha Hrest]
    · iapply hjoin
      isplitl [Ha]
      · iexact Ha
      · iexact Hrest
    · iapply (owesNone_of lim c (pdats V lim adm 0 c) (Fin.last _) rfl rfl) $$ HO

end R1

end Cert.KernelIdeal.Pf
-- ==== Proof.MgRun.lean ====
/-
  The merge kernel's run.
-/
module

public import proofs.«01_k».proof.Proof.RegBase

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (Dat Cfg Window BodyObligation)
open Idealize.ShloMosaic.TcCoe

/-! ## The merge's run -/

theorem mg_run (c : Dev nD) (M0 : Memref sig .tc .vmem S32x16 .f32) (h0 : M0.IsWhole) (M1 : Memref sig .tc .vmem S32x16 .i32) (h1 : M1.IsWhole)
    (M2 : Memref sig .tc .vmem S16x128 .f32) (h2 : M2.IsWhole) (M3 : Memref sig .tc .vmem S16x128 .i32) (h3 : M3.IsWhole) (M4 : Memref sig .tc .vmem S1x1 .i32) (h4 : M4.IsWhole)
    (f0 : Buf (Elt F) (M0.view.loc (T c))) (f1 : Buf (Elt F) (M1.view.loc (T c))) (f2 : Buf (Elt F) (M2.view.loc (T c))) (f3 : Buf (Elt F) (M3.view.loc (T c)))
    (f4 : Buf (Elt F) (M4.view.loc (T c))) (Q : PUnit → sProp 𝕄) :
    iprop(pt c M0 f0 ∗ pt c M1 f1 ∗ pt c M2 f2 ∗ pt c M3 f3 ∗ pt c M4 f4
        ∗ (iprop(pt c M0 f0 ∗ pt c M1 f1 ∗ pt c M2 f2 ∗ pt c M3 f3
            ∗ (∃ g4, ⌜M4.view.read (Elt F) g4 = k2_pay1 (M0.view.read (Elt F) f0) (M1.view.read (Elt F) f1) (M2.view.read (Elt F) f2) (M3.view.read (Elt F) f3)⌝ ∗ pt c M4 g4)) -∗ Q ⟨⟩))
      ⊢ wp frame (wpE (defs₀ (F := F)) 𝒱₀ (T c) none) Set.univ (cc2__merge_body M0 h0 M1 h1 M2 h2 M3 h3 M4 h4) Q := by
  iintro ⟨H0, H1, H2, H3, H4, Hk⟩
  sl_exec!
  sl_step
  iapply Hk
  isplitl [H0]
  · iexact H0
  isplitl [H1]
  · iexact H1
  isplitl [H2]
  · iexact H2
  isplitl [H3]
  · iexact H3
  iexists _
  isplitr
  rotate_left
  · iexact H4
  ipureintro
  refine (View.read_writes_full _ _ _ _ _).trans ?_
  have r0 := View.readAt_full (Val := Elt F) M0.view f0 inb_S32x16_S32x16_0_0
  have r1 := View.readAt_full (Val := Elt F) M1.view f1 inb_S32x16_S32x16_0_0
  have r2 := View.readAt_full (Val := Elt F) M2.view f2 inb_S16x128_S16x128_0_0
  have r3 := View.readAt_full (Val := Elt F) M3.view f3 inb_S16x128_S16x128_0_0
  rw [← r0, ← r1, ← r2, ← r3]

end Cert.KernelIdeal.Pf
-- ==== Proof.Reg2.lean ====
/-
  The merge's region: one point over the four results of the two scans.
-/
module

public import proofs.«01_k».proof.Proof.MgRun
public import proofs.«01_k».proof.Proof.Gen.KernelIdeal.Points
public import Idealize.ShloMosaic.Lib.Pipeline.RegionsLoop

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (Dat Cfg Window BodyObligation)
open Idealize.ShloMosaic.TcCoe

/-! ## The merge's region -/

namespace R2

variable (V : (c : Dev nD) → (b : Ref sig .tc) → Buf (Elt F) ((T c : Thread nD τ).loc b)) (lim : ℕ)

/-- The invariant of the one point: the scoped buffers that no window of the merge stages. -/
def Φc (c : Dev nD) : sProp 𝕄 := Pipeline.scopedRest spec2 c

/-- What the merge leaves in its result, from what the fetches staged. -/
def mg (c : Dev nD) (t : Fin cfg2.N) : IVec S1x1 32 :=
  k2_pay1 (((cfg2.win 0).blk t).view.read (Elt F) (V c main_v0_0)) (((cfg2.win 1).blk t).view.read (Elt F) (V c main_v0_1))
    (((cfg2.win 2).blk t).view.read (Elt F) (V c main_v1_0)) (((cfg2.win 3).blk t).view.read (Elt F) (V c main_v1_1))

def dat (c : Dev nD) : Dat τ (Elt F) (HIx 1) ℕ UU ℕ cfg2 c where
  A w := V c (Pipeline.arrRef spec2 w)
  after w t := match w with
    | ⟨0, _⟩ => ((cfg2.win 0).blk t).view.read (Elt F) (V c main_v0_0)
    | ⟨1, _⟩ => ((cfg2.win 1).blk t).view.read (Elt F) (V c main_v0_1)
    | ⟨2, _⟩ => ((cfg2.win 2).blk t).view.read (Elt F) (V c main_v1_0)
    | ⟨3, _⟩ => ((cfg2.win 3).blk t).view.read (Elt F) (V c main_v1_1)
    | ⟨4, _⟩ => mg V c t
  Φ _ := Φc c
  q _ := fullShare
  owed _ := 0
  recorded _ := recd (F := F) lim c

theorem mg_eq (c : Dev nD) (t : Fin cfg2.N) {x0 : Vec F S32x16 .f32} {x1 : Vec F S32x16 .i32} {x2 : Vec F S16x128 .f32} {x3 : Vec F S16x128 .i32}
    (e0 : x0 = ((cfg2.win 0).blk t).view.read (Elt F) (V c main_v0_0)) (e1 : x1 = ((cfg2.win 1).blk t).view.read (Elt F) (V c main_v0_1))
    (e2 : x2 = ((cfg2.win 2).blk t).view.read (Elt F) (V c main_v1_0)) (e3 : x3 = ((cfg2.win 3).blk t).view.read (Elt F) (V c main_v1_1)) :
    k2_pay1 x0 x1 x2 x3 = mg V c t := by
  subst e0 e1 e2 e3; rfl

theorem before_0 (c : Dev nD) (t : Fin cfg2.N) (d : (cfg2.win 0).block.Idx → Elt F (cfg2.win 0).elt) : (dat V lim c).before 0 t d = ((cfg2.win 0).blk t).view.read (Elt F) (V c main_v0_0) := by
  unfold Dat.before; rw [if_pos (fetch2_0 t)]; rfl
theorem before_1 (c : Dev nD) (t : Fin cfg2.N) (d : (cfg2.win 1).block.Idx → Elt F (cfg2.win 1).elt) : (dat V lim c).before 1 t d = ((cfg2.win 1).blk t).view.read (Elt F) (V c main_v0_1) := by
  unfold Dat.before; rw [if_pos (fetch2_1 t)]; rfl
theorem before_2 (c : Dev nD) (t : Fin cfg2.N) (d : (cfg2.win 2).block.Idx → Elt F (cfg2.win 2).elt) : (dat V lim c).before 2 t d = ((cfg2.win 2).blk t).view.read (Elt F) (V c main_v1_0) := by
  unfold Dat.before; rw [if_pos (fetch2_2 t)]; rfl
theorem before_3 (c : Dev nD) (t : Fin cfg2.N) (d : (cfg2.win 3).block.Idx → Elt F (cfg2.win 3).elt) : (dat V lim c).before 3 t d = ((cfg2.win 3).blk t).view.read (Elt F) (V c main_v1_1) := by
  unfold Dat.before; rw [if_pos (fetch2_3 t)]; rfl

set_option maxHeartbeats 2000000 in
theorem body_obligation (c : Dev nD) : BodyObligation (dat V lim c) (defs₀ (F := F)) 𝒱₀ none Set.univ := fun t => by
  rw [bigSep_W2, bigSep_W2]
  show _ ⊢ wp frame _ _ (bodyAt2 t) _
  rw [show (dat V lim c).Φ t.castSucc = Φc (F := F) c from rfl, show (dat V lim c).Φ t.succ = Φc (F := F) c from rfl,
    show (dat V lim c).owesAt (none : HIx 1) t.succ = (dat V lim c).owesAt (none : HIx 1) t.castSucc from rfl]
  simp only [before_0, before_1, before_2, before_3]
  iintro ⟨Hr, Ho, ⟨%d0, H0⟩, ⟨%d1, H1⟩, ⟨%d2, H2⟩, ⟨%d3, H3⟩, ⟨%d4, H4⟩⟩
  ihave H0 := (owns_open c (stage_whole2 0 (cfg2.slots t 0)) _) $$ H0
  ihave H1 := (owns_open c (stage_whole2 1 (cfg2.slots t 1)) _) $$ H1
  ihave H2 := (owns_open c (stage_whole2 2 (cfg2.slots t 2)) _) $$ H2
  ihave H3 := (owns_open c (stage_whole2 3 (cfg2.slots t 3)) _) $$ H3
  ihave H4 := (owns_open c (stage_whole2 4 (cfg2.slots t 4)) _) $$ H4
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  iapply (mg_run c (win2_0.stage (cfg2.slots t 0)) (hstage2_0 0) (win2_1.stage (cfg2.slots t 1)) (hstage2_1 0) (win2_2.stage (cfg2.slots t 2)) (hstage2_2 0) (win2_3.stage (cfg2.slots t 3)) (hstage2_3 0) (win2_4.stage (cfg2.slots t 4)) (hstage2_4 0) f0 f1 f2 f3 f4 _) $$ [H0 H1 H2 H3 H4 Hr Ho]
  isplitl [H0]
  · iexact H0
  isplitl [H1]
  · iexact H1
  isplitl [H2]
  · iexact H2
  isplitl [H3]
  · iexact H3
  isplitl [H4]
  · iexact H4
  iintro ⟨H0, H1, H2, H3, ⟨%g4, %e4', H4⟩⟩
  isplitl [Hr]
  · iexact Hr
  isplitl [Ho]
  · iexact Ho
  isplitl [H0]
  · iapply (owns_close c (stage_whole2 0 (cfg2.slots t 0)) _ _ e0) $$ H0
  isplitl [H1]
  · iapply (owns_close c (stage_whole2 1 (cfg2.slots t 1)) _ _ e1) $$ H1
  isplitl [H2]
  · iapply (owns_close c (stage_whole2 2 (cfg2.slots t 2)) _ _ e2) $$ H2
  isplitl [H3]
  · iapply (owns_close c (stage_whole2 3 (cfg2.slots t 3)) _ _ e3) $$ H3
  · iapply (owns_close c (stage_whole2 4 (cfg2.slots t 4)) _ g4 (e4'.trans (mg_eq V c t e0 e1 e2 e3))) $$ H4

variable (adm : (p : Fin 2) → (pcfgs (F := F) p).Adm)

/-- The proof data of both pipelines while this region runs. -/
def pdats : (p : Fin 2) → (c : Dev nD) → Dat τ (Elt F) (HIx 1) ℕ UU ℕ (Pipeline.pin (pcfgs (F := F)) adm p) c
  | ⟨0, _⟩ => fun c => anyDat c
  | ⟨1, _⟩ => dat V lim

variable (Vp : (c : Dev nD) → (b : Ref sig .tc) → Buf (Elt F) ((T c : Thread nD τ).loc b))

set_option backward.isDefEq.respectTransparency.types false in
/-- The region: it takes the buffers at `V` to the buffers at `Vp`, which differs from `V` at the result. -/
def reg (h4 : ∀ c, Vp c main_v2 = (dat V lim c).arrAt 4 cfg2.N) (hne : ∀ c (b : Ref sig .tc), b ≠ main_v2 → Vp c b = V c b) :
    Pipeline.RegionSeg (pcfgs (F := F)) adm (pdats V lim adm) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation V lim c).loose
  hwaits := Pipeline.hwaits_of_owed_zero _ _ _ _ (K (F := F)).L (K (F := F)).lev 1 fun _ _ => rfl
  pre c := iprop(unscopedBufs c (V c) ∗ owesNone (F := F) lim c)
  post c := iprop(unscopedBufs c (Vp c) ∗ owesNone (F := F) lim c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V lim adm) launch2.win launch2.arr_whole c
      ((pdats V lim adm 1 c).share_full fun _ => rfl) (V c) fun _ => rfl
    iintro ⟨⟨Hub, HO⟩, -, -⟩
    ihave H := hsplit $$ Hub
    icases H with ⟨Ha, Hrest⟩
    imodintro
    isplitl [Ha]
    · iexact Ha
    isplitr
    · unfold Pipeline.prefHeld
      rw [show (Finset.univ : Finset (Fin 0)) = ∅ from rfl, BI.bigSep_empty]
      iempintro
    isplitl [HO]
    · iapply (owesNone_to lim c (dat V lim c) 0 rfl rfl) $$ HO
    isplitr
    · iempintro
    · iexact Hrest
  hin c := by
    rw [show (pdats V lim adm 1 c).Φ 0 = Φc (F := F) c from rfl]
    rw [show Pipeline.scopedRest (Pipeline.pin (pcfgs (F := F)) adm 1).spec c = Φc (F := F) c from rfl]
    iintro ⟨-, -, Hr⟩
    iexact Hr
  hout c := by
    rw [Pipeline.ownSems0_none, show (pdats V lim adm 1 c).Φ (Fin.last _) = Φc (F := F) c from rfl]
    rw [show Pipeline.scopedRest (Pipeline.pin (pcfgs (F := F)) adm 1).spec c = Φc (F := F) c from rfl]
    iintro Hr
    isplitr
    · iempintro
    isplitr
    · iempintro
    · iexact Hr
  hexit c := by
    have hjoin := Pipeline.unscopedBufs_of_arrays (p := 1) (pcfgs (F := F)) adm (Ix := HIx 1) (Name := ℕ) (U := UU) (Lvl := ℕ) launch2.win launch2.arr_whole c
      (pdats V lim adm) ((pdats V lim adm 1 c).share_full fun _ => rfl) (V c) (Vp c) ((pdats V lim adm 1 c).arrAt · cfg2.N)
      (fun w => by
        fin_cases w
        · exact ((pdats V lim adm 1 c).arrAt_in 0 rfl _).trans (hne c main_v0_0 (by decide)).symm
        · exact ((pdats V lim adm 1 c).arrAt_in 1 rfl _).trans (hne c main_v0_1 (by decide)).symm
        · exact ((pdats V lim adm 1 c).arrAt_in 2 rfl _).trans (hne c main_v1_0 (by decide)).symm
        · exact ((pdats V lim adm 1 c).arrAt_in 3 rfl _).trans (hne c main_v1_1 (by decide)).symm
        · exact (h4 c).symm)
      (fun b hb => hne c b (fun h => hb (h ▸ Finset.mem_image.mpr ⟨4, Finset.mem_univ _, rfl⟩)))
    iintro ⟨Ha, HO, -, Hrest⟩
    imodintro
    isplitl [Ha Hrest]
    · iapply hjoin
      isplitl [Ha]
      · iexact Ha
      · iexact Hrest
    · iapply (owesNone_of lim c (pdats V lim adm 1 c) (Fin.last _) rfl rfl) $$ HO

end R2

end Cert.KernelIdeal.Pf
-- ==== Proof.Main.lean ====
/-
  The program's run: the call, the two regions, the reshape.
-/
module

public import proofs.«01_k».proof.Proof.ScLaunch
public import proofs.«01_k».proof.Proof.Reg1
public import proofs.«01_k».proof.Proof.Reg2

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (Dat Cfg Window BodyObligation)
open Idealize.ShloMosaic.TcCoe
open Idealize.ShloMosaic.StableHlo (held wp_hlo_within)

variable (m : (ℓ : Loc nD τ sig) → Buf (Elt F) ℓ) (ρ : Dev nD → PrngReg)

/-! ## The buffers between the steps of `main` -/

/-- The level up to which the core's waits are recorded between the call and the end. -/
abbrev lim : ℕ := 8 * SparseCore.Cfg.Blocks.fst (Q := 1) (N := 1) 1

/-- The arrays as the launch finds them, after the SparseCore call, after the scan, after the merge. -/
def V0 (d : Dev nD) (b : Ref sig .tc) : Buf (Elt F) ((T d : Thread nD τ).loc b) := m ((T d : Thread nD τ).loc b)
def V1 (d : Dev nD) : (b : Ref sig .tc) → Buf (Elt F) ((T d : Thread nD τ).loc b) :=
  Function.update (Function.update (V0 m d) main_v0_0 (vFin m d)) main_v0_1 (iFin m d)
def V2 (d : Dev nD) : (b : Ref sig .tc) → Buf (Elt F) ((T d : Thread nD τ).loc b) :=
  Function.update (Function.update (V1 m d) main_v1_0 ((R1.dat (V1 m) lim d).arrAt 1 cfg1.N)) main_v1_1 ((R1.dat (V1 m) lim d).arrAt 2 cfg1.N)
def V3 (d : Dev nD) : (b : Ref sig .tc) → Buf (Elt F) ((T d : Thread nD τ).loc b) :=
  Function.update (V2 m d) main_v2 ((R2.dat (V2 m) lim d).arrAt 4 cfg2.N)

theorem V1_ne (d : Dev nD) (b : Ref sig .tc) (h0 : b ≠ main_v0_0) (h1 : b ≠ main_v0_1) : V1 m d b = V0 m d b :=
  (Function.update_of_ne h1 _ _).trans (Function.update_of_ne h0 _ _)
theorem V1_v (d : Dev nD) : V1 m d main_v0_0 = vFin m d := (Function.update_of_ne (by decide) _ _).trans (Function.update_self _ _ _)
theorem V1_i (d : Dev nD) : V1 m d main_v0_1 = iFin m d := Function.update_self _ _ _
theorem V2_ne (d : Dev nD) (b : Ref sig .tc) (h0 : b ≠ main_v1_0) (h1 : b ≠ main_v1_1) : V2 m d b = V1 m d b :=
  (Function.update_of_ne h1 _ _).trans (Function.update_of_ne h0 _ _)
theorem V2_v (d : Dev nD) : V2 m d main_v1_0 = (R1.dat (V1 m) lim d).arrAt 1 cfg1.N := (Function.update_of_ne (by decide) _ _).trans (Function.update_self _ _ _)
theorem V2_i (d : Dev nD) : V2 m d main_v1_1 = (R1.dat (V1 m) lim d).arrAt 2 cfg1.N := Function.update_self _ _ _
theorem V3_ne (d : Dev nD) (b : Ref sig .tc) (h : b ≠ main_v2) : V3 m d b = V2 m d b := Function.update_of_ne h _ _
theorem V3_v2 (d : Dev nD) : V3 m d main_v2 = (R2.dat (V2 m) lim d).arrAt 4 cfg2.N := Function.update_self _ _ _
theorem V3_arg0 (d : Dev nD) : V3 m d main_arg0 = m (xLoc d) :=
  (V3_ne m d _ (by decide)).trans ((V2_ne m d _ (by decide) (by decide)).trans (V1_ne m d _ (by decide) (by decide)))

theorem unscopedBufs_eq (d : Dev nD) (W : (b : Ref sig .tc) → Buf (Elt F) ((T d : Thread nD τ).loc b)) :
    (unscopedBufs d W : sProp 𝕄) = iprop((xLoc d ↦{fullShare} W main_arg0) ∗ (vLoc d ↦{fullShare} W main_v0_0) ∗ (iLoc d ↦{fullShare} W main_v0_1)
      ∗ ((T d : Thread nD τ).loc main_v1_0 ↦{fullShare} W main_v1_0) ∗ ((T d : Thread nD τ).loc main_v1_1 ↦{fullShare} W main_v1_1)
      ∗ ((T d : Thread nD τ).loc main_v2 ↦{fullShare} W main_v2) ∗ ((T d : Thread nD τ).loc main_v3 ↦{fullShare} W main_v3)) := by
  unfold unscopedBufs
  rw [show (Finset.univ.filter fun b : Ref sig .tc => ¬ b.isScoped) = {main_arg0, main_v0_0, main_v0_1, main_v1_0, main_v1_1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-! ## The two regions' ghost state -/

/-- No pipeline here has a prefetched table. -/
def adm (p : Fin 2) : (pcfgs (F := F) p).Adm := (cfgs p).toPCfg_adm

theorem cellInj : Function.Injective (Pipeline.cellOf (nD := nD) (τ := τ) (Pipeline.pin (pcfgs (F := F)) adm)) := cellOf_inj

/-- What one region takes of the launch's ghost state on core `d`. -/
abbrev gh (p : Fin 2) (d : Dev nD) : sProp 𝕄 :=
  iprop(Pipeline.cellsGhost (Pipeline.pin (pcfgs (F := F)) adm) EP p d ∗ Pipeline.toksInit (Pipeline.pin (pcfgs (F := F)) adm) EP p d)

def u₀ : UU := (initOf (K (F := F)).hsCells (K (F := F)).hsToks,
  (initOf (Pipeline.cells (Pipeline.pin (pcfgs (F := F)) adm) cellInj) (Pipeline.launchToks (Pipeline.pin (pcfgs (F := F)) adm) cellInj), 1))

/-- One region's step of `main`. -/
theorem wp_region {p : Fin 2} {pd : (p : Fin 2) → (c : Dev nD) → Dat τ (Elt F) (HIx 1) ℕ UU ℕ (Pipeline.pin (pcfgs (F := F)) adm p) c}
    (R : Pipeline.RegionSeg (pcfgs (F := F)) adm pd (none : HIx 1) defs₀ 𝒱₀ (K (F := F)).L (K (F := F)).lev p) (d : Dev nD) (A B : sProp 𝕄) (hA : R.pre d = A) (hB : R.post d = B)
    (Q : PUnit → sProp 𝕄) :
    iprop((iprop(boundary (T d : Thread nD τ) ∗ B) -∗ Q ⟨⟩) ∗ boundary (T d : Thread nD τ) ∗ A ∗ levAts (K (F := F)).L (K (F := F)).lev ∗ gh p d)
      ⊢ wp frame (wpE ((K (F := F)).defs (D (F := F))) 𝒱 (T d) none) Set.univ (Prog.lift (.customCall (SparseCore.inner (Pipeline.entry p)) ())) Q := by
  subst hA hB
  refine BI.Entails.trans ?_ ((K (F := F)).wp_liftProg (D (F := F)) 𝒱 (T d) Set.univ none (Prog.lift (.customCall (Pipeline.entry p) ())) Q)
  have h := Pipeline.RegionSeg.wp (pcfgs (F := F)) adm pd (none : HIx 1) cellInj EP defs₀ 𝒱₀ (K (F := F)).L (K (F := F)).lev R d none (fun _ h => nomatch h) .ret Q
  show _ ⊢ wp frame (wpE (Pipeline.defs (pcfgs (F := F)) defs₀) 𝒱₀.lift (d.tc : Thread nD τ) none) Set.univ (.op (.customCall (Pipeline.entry p) ()) .ret) Q
  iintro ⟨Hk, Hb, Hp, Hl, Hg, Ht⟩
  iapply h
  isplitl [Hk]
  · iintro H
    rw [wp_ret]
    imodintro
    iapply Hk $$ H
  isplitl [Hb]
  · iexact Hb
  isplitl [Hp]
  · iexact Hp
  isplitl [Hl]
  · iexact Hl
  isplitl [Hg]
  · iexact Hg
  · iexact Ht

/-! ## `main` on the TensorCore -/

abbrev opR : HloOp τ sig (Elt F) := StableHlo.reshape main_v2 main_v3 (rfl : (.i32 : EltTy) = .i32) shapeCasts_S1x1_S_
abbrev m2' : DevRef τ sig := Proc.devRef .tc (main_v2 : Ref sig .tc)
abbrev m3' : DevRef τ sig := Proc.devRef .tc (main_v3 : Ref sig .tc)
abbrev S2 : Finset (DevRef τ sig) := {m2', m3'}
theorem hR : (opR (F := F)).bufs ⊆ S2 := show ({m2', m3'} : Finset (DevRef τ sig)) ⊆ S2 by decide

/-- The valuation the reshape runs at. -/
def W3 (d : Dev nD) : Valuation τ sig (Elt F) := Function.update (fun b => m (d, b)) m2' (V3 m d main_v2)
theorem W3_2 (d : Dev nD) : W3 m d m2' = V3 m d main_v2 := Function.update_self _ _ _
theorem W3_3 (d : Dev nD) : W3 m d m3' = m (d, m3') := Function.update_of_ne (show m3' ≠ m2' by decide) _ _
theorem V3_v3 (d : Dev nD) : V3 m d main_v3 = m ((T d : Thread nD τ).loc main_v3) :=
  (V3_ne m d _ (by decide)).trans ((V2_ne m d _ (by decide) (by decide)).trans (V1_ne m d _ (by decide) (by decide)))

theorem held_S2 (d : Dev nD) (W : Valuation τ sig (Elt F)) :
    (held (T d) S2 W : sProp 𝕄) = iprop(((T d : Thread nD τ).loc main_v2 ↦{fullShare} W m2') ∗ ((T d : Thread nD τ).loc main_v3 ↦{fullShare} W m3')) := by
  unfold held S2
  rw [SparseCore.bigSep_insert' (by decide), bigSep_singleton]

/-- The result. -/
def res (d : Dev nD) : Buf (Elt F) ((T d : Thread nD τ).loc main_v3) := shapeCast S_ (V3 m d main_v2) shapeCasts_S1x1_S_

theorem res_3 (d : Dev nD) : (opR (F := F)).result (W3 m d) m3' = res m d := by
  unfold res
  rw [← W3_2]
  exact StableHlo.reshape_result main_v2 main_v3 _ _ _ _ (W3 m d)

def FIN (d : Dev nD) : sProp 𝕄 := iprop((xLoc d ↦{fullShare} m (xLoc d)) ∗ ((T d : Thread nD τ).loc main_v3 ↦{fullShare} res m d))

theorem hmain (κ : GSem nD τ sig → ℕ) (d : Dev nD) :
    iprop((K (F := F)).ctx EH (P m) κ ∗ (K (F := F)).tcSt EH d 0 ∗ (K (F := F)).tcRes m ρ d ∗ (gh (F := F) 0 d ∗ gh 1 d))
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((T d : Thread nD τ).loc b)) : sProp 𝕄) = unscopedBufs d (V0 m d) from rfl, unscopedBufs_eq]
  simp only [main, wp_bind, wp_pure]
  iintro ⟨#Hctx, Hst, ⟨Hb, ⟨Hx, Hv, Hi, Hs0, Hs1, Hm, Hr⟩, Hts, -⟩, Hg0, Hg1⟩
  -- the call
  iapply ((K (F := F)).wp_run (D (F := F)) 𝒱 (EH := EH) (P := P m) κ d 0) $$ [Hst Hx Hv Hi Hs0 Hs1 Hm Hr Hb Hts Hg0 Hg1]
  isplitr
  · iexact Hctx
  isplitl [Hst]
  · iexact Hst
  isplitl [Hx Hv Hi]
  · rw [st0_eq]
    isplitl [Hx]
    · iexact Hx
    isplitl [Hv]
    · iexact Hv
    · iexact Hi
  iintro ⟨Hst, Hdn⟩
  ihave Hdn' := (Entails.of_eq (dn0_eq m d)) $$ Hdn
  icases Hdn' with ⟨Hx, Hv, Hi⟩
  unfold SparseCore.Cfg.tcSt
  icases Hst with ⟨⟨%W, %hW, HO⟩, Hst⟩
  rw [(K (F := F)).Otc_end d (show 1 ≤ (0 : Fin 1).val + 1 from le_refl _)]
  ihave #Hlev := (SparseCore.Cfg.ctx_levAts κ) $$ Hctx
  -- the scan's region
  iapply (wp_region (R1.reg (V1 m) lim adm (V2 m) (V2_v m) (V2_i m) (V2_ne m)) d iprop(unscopedBufs d (V1 m d) ∗ owesNone (F := F) lim d) iprop(unscopedBufs d (V2 m d) ∗ owesNone (F := F) lim d) rfl rfl _) $$ [Hst HO Hx Hv Hi Hs0 Hs1 Hm Hr Hb Hts Hg0 Hg1]
  isplitr [HO Hx Hv Hi Hs0 Hs1 Hm Hr Hb Hg0]
  rotate_left
  · isplitl [Hb]
    · iexact Hb
    isplitr [Hg0]
    · isplitr [HO]
      · rw [unscopedBufs_eq, V1_v, V1_i, V1_ne m d main_arg0 (by decide) (by decide), V1_ne m d main_v1_0 (by decide) (by decide),
          V1_ne m d main_v1_1 (by decide) (by decide), V1_ne m d main_v2 (by decide) (by decide), V1_ne m d main_v3 (by decide) (by decide)]
        isplitl [Hx]
        · iexact Hx
        isplitl [Hv]
        · iexact Hv
        isplitl [Hi]
        · iexact Hi
        isplitl [Hs0]
        · iexact Hs0
        isplitl [Hs1]
        · iexact Hs1
        isplitl [Hm]
        · iexact Hm
        · iexact Hr
      · unfold owesNone
        iexists W
        isplitr
        · ipureintro; exact hW
        · iexact HO
    isplitr
    · iexact Hlev
    · iexact Hg0
  iintro ⟨Hb, Hub, HO⟩
  -- the merge's region
  iapply (wp_region (R2.reg (V2 m) lim adm (V3 m) (V3_v2 m) (V3_ne m)) d iprop(unscopedBufs d (V2 m d) ∗ owesNone (F := F) lim d) iprop(unscopedBufs d (V3 m d) ∗ owesNone (F := F) lim d) rfl rfl _) $$ [Hst HO Hub Hb Hts Hg1]
  isplitr [HO Hub Hb Hg1]
  rotate_left
  · isplitl [Hb]
    · iexact Hb
    isplitr [Hg1]
    · isplitl [Hub]
      · iexact Hub
      · iexact HO
    isplitr
    · iexact Hlev
    · iexact Hg1
  iintro ⟨Hb, Hub, HO⟩
  ihave Hub := (Entails.of_eq (unscopedBufs_eq d (V3 m d))) $$ Hub
  icases Hub with ⟨Hx, -, -, -, -, Hm, Hr⟩
  -- the reshape
  iapply (wp_hlo_within 𝒱 (T d) none Set.univ (op := opR) (S := S2) hR (V := W3 m d)) $$ [Hb Hm Hr]
  · isplitl [Hb]
    · iexact Hb
    rw [held_S2, W3_2, W3_3]
    isplitl [Hm]
    · iexact Hm
    · rw [V3_v3]; iexact Hr
  iintro ⟨Hb, Hheld⟩
  ihave Hh := (Entails.of_eq (held_S2 (F := F) d _)) $$ Hheld
  icases Hh with ⟨-, Hr⟩
  rw [wp_ret]
  imodintro
  imodintro
  isplitl [Hst HO]
  · unfold owesNone
    icases HO with ⟨%W', %hW', HO⟩
    isplitl [HO]
    · iexists W'
      isplitr
      · ipureintro; exact hW'
      · rw [(K (F := F)).Otc_end d (show 1 ≤ 1 from le_refl _)]; iexact HO
    · iexact Hst
  isplitr [Hb Hts]
  · unfold FIN
    rw [V3_arg0, res_3]
    isplitl [Hx]
    · iexact Hx
    · iexact Hr
  isplitl [Hb]
  · iexact Hb
  · iexact Hts

theorem bigSep_emp' {I : Type} (s : Finset I) : (bigSep s fun _ => iprop(emp)) = (iprop(emp) : sProp 𝕄) := bigSep_emp_const s

theorem own_EP (a : UP) : (BI.own (((Emb.inl : Emb UP (UP × Counters)).trans (embR : Emb (UP × Counters) 𝕄)) a) : sProp 𝕄) ⊢ BI.own (EP a) := BI.Entails.refl _

theorem hu₀ : (ownU (u₀ (F := F)) : sProp 𝕄)
    ⊢ |={Set.univ}=> iprop(BI.own (EH (initOf (K (F := F)).hsCells (K (F := F)).hsToks)) ∗ (bigSep Finset.univ fun d : Dev nD => iprop(gh (F := F) 0 d ∗ gh 1 d))
        ∗ bigSep Finset.univ fun thr : Thread nD τ => bigSep Finset.univ fun q : Fin 1 => (P m).x q thr) := by
  have hx : (bigSep Finset.univ fun _ : Thread nD τ => bigSep Finset.univ fun _ : Fin 1 => (iprop(emp) : sProp 𝕄)) = iprop(emp) := by
    rw [bigSep_congr fun _ _ => bigSep_emp' _, bigSep_emp']
  have hg : iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄)))
      ⊢ bigSep Finset.univ fun d : Dev nD => iprop(gh (F := F) 0 d ∗ gh 1 d) := by
    rw [← bigSep_sep']
    refine BI.bigSep_mono fun d _ => ?_
    show iprop(_ ∗ _) ⊢ (iprop(gh (F := F) 0 d ∗ gh 1 d) : sProp 𝕄)
    rw [show (Finset.univ : Finset (Fin 2)) = {0, 1} by decide, SparseCore.bigSep_insert' (by decide), SparseCore.bigSep_insert' (by decide), bigSep_singleton, bigSep_singleton]
    iintro ⟨⟨Ha, Hb⟩, Hc, Hd⟩
    isplitl [Ha Hc]
    · isplitl [Ha]
      · iexact Ha
      · iexact Hc
    · isplitl [Hb]
      · iexact Hb
      · iexact Hd
  unfold u₀
  iintro Hu
  ihave H := (ownU_pair _ _) $$ Hu
  icases H with ⟨HH, HP⟩
  ihave HP := (own_pair_emb embR _ _) $$ HP
  icases HP with ⟨HP, -⟩
  ihave HP := (own_EP _) $$ HP
  imod (Pipeline.fund_ghost (Pipeline.pin (pcfgs (F := F)) adm) EP cellInj) $$ HP with HG
  imodintro
  isplitl [HH]
  · iexact HH
  isplitl [HG]
  · iapply hg $$ HG
  · unfold P
    dsimp only
    rw [hx]
    iempintro

/-! ## The program's run -/

def fq (d : Dev nD) (s' : Phys nD τ sig (Elt F)) : Prop := s'.mem.mem (xLoc d) = m (xLoc d) ∧ s'.mem.mem ((T d : Thread nD τ).loc main_v3) = res m d

theorem hfin (d : Dev nD) (s' : Phys nD τ sig (Elt F)) : iprop(FIN m d ∗ SI s') ⊢ (⌜fq m d s'⌝ : sProp 𝕄) := by
  unfold FIN
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI]
    · iexact HSI
    · iexact Hx
  icases H with ⟨%hx, HSI, -⟩
  ihave H := (SI_pointsTo_agree (st := s') (ℓ := (T d : Thread nD τ).loc main_v3) (I := Finset.univ) (q := fullShare) (f := res m d)) $$ [HSI Hr]
  · isplitl [HSI]
    · iexact HSI
    · iexact Hr
  icases H with %hr
  ipureintro
  exact ⟨funext fun i => hx i (Finset.mem_univ i), funext fun i => hr i (Finset.mem_univ i)⟩

def QC : PUnit × MemSt nD τ sig (Elt F) → Prop := fun r =>
  (∀ c : Dev nD, r.2.mem (xLoc c) = m (xLoc c) ∧ r.2.mem ((T c : Thread nD τ).loc main_v3) = res m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m)
    (fun q _ => match q with | 0 => SparseCore.Cfg.VecSplit.of_plain (vecSplit m))
    m ρ main (fun d => iprop(gh (F := F) 0 d ∗ gh 1 d)) (FIN m) (u₀ (F := F)) (sep_elim_left.trans (hu₀ m)) (hmain m ρ) (fq m) (hfin m) (QC m) (fun _ h hz => ⟨h, hz⟩)

end Cert.KernelIdeal.Pf
-- ==== Proof.RefRun.lean ====
/-
  The run of the reference: a flattening, then a maximum with its index, on the host.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.ReferenceIdeal.Pf

open Cert.ReferenceIdeal Cert.ReferenceIdeal.Gen
open Idealize.ShloMosaic
open Idealize.ShloMosaic.StableHlo
open Idealize.SL.Sem

variable {F : FTy → Type} [FloatOps F]

/-- The reference's operations, in order. -/
def ops : List (HloOp τ sig (Elt F)) :=
  [StableHlo.reshape main_arg0 main_v0 (rfl : (.f32 : EltTy) = .f32) shapeCasts_S128x32768_S4194304,
   StableHlo.nullary main_call0_v0 (iotaInDim S4194304 32 0),
   StableHlo.nullary main_call0_cst (constant S_ .f32 0xFF800000#32),
   StableHlo.nullary main_call0_c (constantI S_ 32 0#32),
   StableHlo.quaternary main_v0 main_call0_v0 main_call0_cst main_call0_c main_call0_v1_0 (fun x y u v j => (Host.argReduce reducer_argmax_f32_i32 x y u v reducesTo_S4194304_S_d0 h_S_ j).1),
   StableHlo.quaternary main_v0 main_call0_v0 main_call0_cst main_call0_c main_v1 (fun x y u v j => (Host.argReduce reducer_argmax_f32_i32 x y u v reducesTo_S4194304_S_d0 h_S_ j).2)]

theorem main_eq (d : Dev nD) : main (F := F) d = seq ops := rfl

/-- What the reference computes. -/
def out (x : FVec F S128x32768 .f32) : IVec S_ 32 := fun j =>
  (Host.argReduce reducer_argmax_f32_i32 (shapeCast S4194304 x shapeCasts_S128x32768_S4194304) (iotaInDim S4194304 32 0) (constant S_ .f32 0xFF800000#32) (constantI S_ 32 0#32) reducesTo_S4194304_S_d0 h_S_ j).2

theorem after_v1 (V : Valuation τ sig (Elt F)) : after ops V (Proc.devRef .tc main_v1) = out (V (Proc.devRef .tc main_arg0)) := by
  unfold ops
  after_results
  rfl

theorem after_arg0 (V : Valuation τ sig (Elt F)) : after ops V (Proc.devRef .tc main_arg0) = V (Proc.devRef .tc main_arg0) := by
  unfold ops
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., nullary_bufs_sub .., nullary_bufs_sub .., quaternary_bufs_sub .., quaternary_bufs_sub ..⟩

/-- The reference's run: its result, its argument unchanged, every counter at zero. -/
theorem run (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_v1) = out (m ((c.tc : Thread nD τ).loc main_arg0))
        ∧ r.2.mem ((c.tc : Thread nD τ).loc main_arg0) = m ((c.tc : Thread nD τ).loc main_arg0))
      ∧ r.2.sem = fun _ => 0 :=
  (θ_run (defs (F := F)) _ _).mono
    (fun r h => ⟨fun c => ⟨(h c main_v1).trans (after_v1 _), (h c main_arg0).trans (after_arg0 _)⟩, sem_eq_zero_of_no_sems (by decide) r.2⟩)
    (run_seq scopedRefs_eq scopedSems_eq defs main (fun _ => ops) main_eq (fun _ => ops_sub) m g)

end Cert.ReferenceIdeal.Pf

end
-- ==== Proof.Pick.lean ====
/-
  The mathematics of an arg-max taken lane by lane: a scan that keeps the first index of its maximum, and
  the merge of scans that together see every index.
-/
module

public import Idealize.ShloMosaic.PureOps.Ideal.Laws

@[expose] public section

noncomputable section

namespace Cert.Pick

open Idealize.ShloMosaic

/-- The number of elements. -/
abbrev N : ℕ := 4194304
theorem N_pos : 0 < N := by norm_num

/-- The flattened array: element `n` is in row `n / 32768`. -/
def xf (X : (⟨2, ![128, 32768]⟩ : Shape).Idx → EReal) (n : ℕ) : EReal :=
  X (Shape.pair (d := ![128, 32768]) ⟨n / 32768 % 128, by show _ < 128; omega⟩ ⟨n % 32768, by show _ < 32768; omega⟩)

theorem xf_pair (X : (⟨2, ![128, 32768]⟩ : Shape).Idx → EReal) (r : Fin 128) (c : Fin 32768) (n : ℕ) (h : n = r.val * 32768 + c.val) :
    X (Shape.pair (d := ![128, 32768]) r c) = xf X n := by
  unfold xf
  have h1 := r.isLt
  have h2 := c.isLt
  congr 2
  · exact Fin.ext (by show r.val = n / 32768 % 128; omega)
  · exact Fin.ext (by show c.val = n % 32768; omega)

/-- One step of a scan: the maximum, and the label of the element that first attained it. -/
def stp (a : EReal × BitVec 32) (y : EReal) (g : BitVec 32) : EReal × BitVec 32 := (max a.1 y, if a.1 < y then g else a.2)

/-- The scan after `n` steps over the elements `y`, labelled `g`. -/
def scan (y : ℕ → EReal) (g : ℕ → BitVec 32) : ℕ → EReal × BitVec 32
  | 0 => (⊥, 0#32)
  | n + 1 => stp (scan y g n) (y n) (g n)

theorem scan_ok (y : ℕ → EReal) (g : ℕ → BitVec 32) (n : ℕ) :
    (∀ k < n, y k ≤ (scan y g n).1)
      ∧ (((scan y g n).1 = ⊥ ∧ (scan y g n).2 = 0#32)
        ∨ ∃ i < n, (scan y g n).2 = g i ∧ y i = (scan y g n).1 ∧ ∀ k < n, y k = (scan y g n).1 → i ≤ k) := by
  induction n with
  | zero => exact ⟨fun k hk => absurd hk (Nat.not_lt_zero k), .inl ⟨rfl, rfl⟩⟩
  | succ n ih =>
    obtain ⟨h1, h2⟩ := ih
    by_cases hy : (scan y g n).1 < y n
    · have e : scan y g (n + 1) = (y n, g n) := by
        show stp _ _ _ = _
        unfold stp
        rw [max_eq_right hy.le, if_pos hy]
      rw [e]
      refine ⟨fun k hk => ?_, .inr ⟨n, Nat.lt_succ_self n, rfl, rfl, fun k hk ek => ?_⟩⟩
      · rcases Nat.lt_succ_iff_lt_or_eq.1 hk with hk | rfl
        · exact (h1 k hk).trans hy.le
        · exact le_refl _
      · rcases Nat.lt_succ_iff_lt_or_eq.1 hk with hk | rfl
        · exact absurd (h1 k hk) (by rw [show y k = y n from ek]; exact not_le.2 hy)
        · exact le_refl _
    · have e : scan y g (n + 1) = scan y g n := by
        show stp _ _ _ = _
        unfold stp
        rw [max_eq_left (not_lt.1 hy), if_neg hy]
      rw [e]
      refine ⟨fun k hk => ?_, ?_⟩
      · rcases Nat.lt_succ_iff_lt_or_eq.1 hk with hk | rfl
        · exact h1 k hk
        · exact not_lt.1 hy
      · rcases h2 with h2 | ⟨i, hi, e1, e2, e3⟩
        · exact .inl h2
        · refine .inr ⟨i, Nat.lt_succ_of_lt hi, e1, e2, fun k hk ek => ?_⟩
          rcases Nat.lt_succ_iff_lt_or_eq.1 hk with hk | rfl
          · exact e3 k hk ek
          · exact hi.le

/-- `b` is the first index at which `x` attains its maximum. -/
def IsRes (x : ℕ → EReal) (b : BitVec 32) : Prop := b.toNat < N ∧ ∀ j < N, x j ≤ x b.toNat ∧ (x j = x b.toNat → b.toNat ≤ j)

theorem IsRes.unique {x : ℕ → EReal} {a b : BitVec 32} (ha : IsRes x a) (hb : IsRes x b) : a = b := by
  have e : x a.toNat = x b.toNat := le_antisymm (hb.2 _ ha.1).1 (ha.2 _ hb.1).1
  exact BitVec.eq_of_toNat_eq (le_antisymm ((ha.2 _ hb.1).2 e.symm) ((hb.2 _ ha.1).2 e))

/-- What a lane that saw the indices in `S` keeps. -/
structure Lane (x : ℕ → EReal) (S : ℕ → Prop) (v : EReal) (b : BitVec 32) : Prop where
  ub : ∀ j, S j → x j ≤ v
  lt : b.toNat < N
  hit : v ≠ ⊥ → x b.toNat = v ∧ ∀ j, S j → x j = v → b.toNat ≤ j

/-- A scan whose `i`-th element is `x (p i)`, with `p` increasing, is such a lane; its label may be mapped by `r`. -/
theorem lane_of_scan (x : ℕ → EReal) (y : ℕ → EReal) (g : ℕ → BitVec 32) (r : BitVec 32 → BitVec 32) (p : ℕ → ℕ) (n : ℕ)
    (hy : ∀ i < n, y i = x (p i)) (hg : ∀ i < n, (r (g i)).toNat = p i) (hp : ∀ i j, i ≤ j → j < n → p i ≤ p j) (hN : ∀ i < n, p i < N) (h0 : (r 0#32).toNat < N) :
    Lane x (fun j => ∃ i < n, j = p i) (scan y g n).1 (r (scan y g n).2) := by
  obtain ⟨h1, h2⟩ := scan_ok y g n
  refine ⟨?_, ?_, ?_⟩
  · rintro j ⟨i, hi, rfl⟩
    exact hy i hi ▸ h1 i hi
  · rcases h2 with ⟨-, e⟩ | ⟨i, hi, e, -, -⟩
    · rw [e]; exact h0
    · rw [e, hg i hi]; exact hN i hi
  · intro hv
    rcases h2 with ⟨e, -⟩ | ⟨i, hi, e1, e2, e3⟩
    · exact absurd e hv
    · rw [e1, hg i hi]
      refine ⟨(hy i hi).symm.trans e2, ?_⟩
      rintro j ⟨k, hk, rfl⟩ ek
      exact hp i k (e3 k hk ((hy k hk).trans ek)) hk

/-- The merge: the largest of the lanes' maxima, and among the lanes that hold it the smallest index. -/
theorem merge {ι : Type} (x : ℕ → EReal) (S : ι → ℕ → Prop) (v : ι → EReal) (b : ι → BitVec 32) (hl : ∀ l, Lane x (S l) (v l) (b l))
    (hc : ∀ j < N, ∃ l, S l j) (l₀ : ι) (h₀ : v l₀ = ⊥ → b l₀ = 0#32) (mx : EReal) (hm : ∀ l, v l ≤ mx) (hm' : ∃ l, v l = mx)
    (out : BitVec 32) (ho : ∀ l, v l = mx → out.toNat ≤ (b l).toNat) (ho' : ∃ l, v l = mx ∧ out = b l) : IsRes x out := by
  obtain ⟨l, hv, rfl⟩ := ho'
  refine ⟨(hl l).lt, fun j hj => ?_⟩
  obtain ⟨k, hk⟩ := hc j hj
  by_cases hb : mx = ⊥
  · have e0 : v l₀ = mx := le_antisymm (hm _) (hb ▸ bot_le)
    have e : (b l).toNat = 0 := Nat.le_zero.1 ((ho _ e0).trans_eq (by rw [h₀ (e0.trans hb)]; rfl))
    rw [e]
    have hxj : x j = ⊥ := le_bot_iff.1 (hb ▸ ((hl k).ub j hk).trans (hm k))
    exact ⟨hxj ▸ bot_le, fun _ => Nat.zero_le _⟩
  · have e := (hl l).hit (hv ▸ hb)
    rw [e.1, hv]
    refine ⟨((hl k).ub j hk).trans (hm k), fun ej => ?_⟩
    have ek : v k = mx := le_antisymm (hm k) (ej ▸ (hl k).ub j hk)
    exact (ho k ek).trans (((hl k).hit (ek ▸ hb)).2 j hk (ej.trans ek.symm))

/-- A fold over `Fin n` in order, by what holds after each element. -/
theorem foldl_finRange {α : Type} : ∀ (n : ℕ) (f : α → Fin n → α) (a : α) (P : ℕ → α → Prop) (_ : P 0 a)
    (_ : ∀ (i : Fin n) (c : α), P i.val c → P (i.val + 1) (f c i)), P n ((List.finRange n).foldl f a)
  | 0, _, _, _, h0, _ => h0
  | n + 1, f, a, P, h0, hs => by
    rw [List.finRange_succ_last, List.foldl_append, List.foldl_map]
    exact hs (Fin.last n) _ (foldl_finRange n (fun c i => f c i.castSucc) a P h0 fun i c hc => hs i.castSucc c hc)

/-- The fold of a choice of the smaller over a finite set: it is below every element, and is the start or one of them. -/
theorem fold_min {ι : Type} [DecidableEq ι] (op : BitVec 32 → BitVec 32 → BitVec 32) [Std.Commutative op] [Std.Associative op]
    (h1 : ∀ a b, op a b = a ∨ op a b = b) (h2 : ∀ a b, (op a b).toInt ≤ a.toInt ∧ (op a b).toInt ≤ b.toInt)
    (s : Finset ι) (z : BitVec 32) (f : ι → BitVec 32) :
    (∀ i ∈ s, (s.fold op z f).toInt ≤ (f i).toInt) ∧ (s.fold op z f = z ∨ ∃ i ∈ s, s.fold op z f = f i) := by
  induction s using Finset.induction_on with
  | empty => exact ⟨fun i hi => absurd hi (Finset.notMem_empty i), .inl rfl⟩
  | insert a s ha ih =>
    rw [Finset.fold_insert ha]
    refine ⟨fun i hi => ?_, ?_⟩
    · rcases Finset.mem_insert.1 hi with rfl | hi
      · exact (h2 _ _).1
      · exact (h2 _ _).2.trans (ih.1 i hi)
    · rcases h1 (f a) (s.fold op z f) with e | e
      · exact .inr ⟨a, Finset.mem_insert_self a s, e⟩
      · rw [e]
        rcases ih.2 with h | ⟨i, hi, h⟩
        · exact .inl h
        · exact .inr ⟨i, Finset.mem_insert_of_mem hi, h⟩

end Cert.Pick

end
-- ==== Proof.RefVal.lean ====
/-
  What the reference computes at the ideal values: the first index of the maximum.
-/
module

public import proofs.«01_k».proof.Proof.RefRun
public import proofs.«01_k».proof.Proof.Pick

@[expose] public section

noncomputable section

namespace Cert.ReferenceIdeal.Pf

open Cert.ReferenceIdeal Cert.ReferenceIdeal.Gen Cert.Pick
open Idealize.ShloMosaic

/-- The reference's reducer keeps the larger value, and at equal values the smaller index. -/
theorem reducer_eq (a b : EReal × BitVec 32) :
    reducer_argmax_f32_i32 (F := Ideal) a b = if b.1 < a.1 ∨ (a.1 = b.1 ∧ a.2.slt b.2 = true) then ((if b.1 < a.1 then a.1 else b.1), a.2) else b := by
  obtain ⟨a1, a2⟩ := a
  obtain ⟨b1, b2⟩ := b
  show (Scalar.select (IntOp.ori (BitVec.ofBool (decide (b1 < a1))) (BitVec.ofBool (decide (a1 ≠ a1)))) a1 b1,
    Scalar.select (IntOp.ori (IntOp.ori (BitVec.ofBool (decide (b1 < a1))) (BitVec.ofBool (decide (a1 ≠ a1)))) (IntOp.andi (BitVec.ofBool (decide (a1 = b1))) (BitVec.ofBool (a2.slt b2)))) a2 b2) = _
  have e : (decide (a1 ≠ a1)) = false := by simp
  rw [e]
  by_cases h1 : b1 < a1
  · have h2 : a1 ≠ b1 := ne_of_gt h1
    simp [h1, h2, Scalar.select, IntOp.ori, IntOp.andi]
  · by_cases h2 : a1 = b1
    · cases h3 : a2.slt b2 <;> simp [h2, h3, Scalar.select, IntOp.ori, IntOp.andi]
    · simp [h1, h2, Scalar.select, IntOp.ori, IntOp.andi]

theorem slt_ofNat (i n : ℕ) (hi : i < 2147483648) (hn : n < 2147483648) : (BitVec.ofNat 32 i).slt (BitVec.ofNat 32 n) = decide (i < n) := by
  unfold BitVec.slt
  congr 1
  rw [BitVec.toInt_eq_toNat_of_lt (by simp only [BitVec.toNat_ofNat]; omega), BitVec.toInt_eq_toNat_of_lt (by simp only [BitVec.toNat_ofNat]; omega)]
  simp only [BitVec.toNat_ofNat, eq_iff_iff]
  omega

/-- The reducer folded over the elements in order keeps, after each, the scan's pair. -/
theorem fold_step (y : ℕ → EReal) (n : ℕ) (hn : n < N) :
    reducer_argmax_f32_i32 (F := Ideal) (scan y (BitVec.ofNat 32) n) (y n, BitVec.ofNat 32 n) = scan y (BitVec.ofNat 32) (n + 1) := by
  rw [reducer_eq]
  show _ = stp _ _ _
  unfold stp
  obtain ⟨-, h⟩ := scan_ok y (BitVec.ofNat 32) n
  generalize scan y (BitVec.ofNat 32) n = a at h
  obtain ⟨a1, a2⟩ := a
  have h2 : ∃ i ≤ n, a2 = BitVec.ofNat 32 i ∧ (i = n → n = 0) := by
    rcases h with ⟨-, e⟩ | ⟨i, hi, e, -⟩
    · exact ⟨0, Nat.zero_le _, e, fun h => h.symm⟩
    · exact ⟨i, hi.le, e, fun h => absurd h hi.ne⟩
  obtain ⟨i, hi, rfl, h0⟩ := h2
  simp only
  rw [slt_ofNat i n (by have : N = 4194304 := rfl; omega) (by have : N = 4194304 := rfl; omega)]
  by_cases h1 : y n < a1
  · rw [if_pos (.inl h1), if_pos h1, max_eq_left h1.le, if_neg (not_lt.2 h1.le)]
  · by_cases h3 : a1 = y n
    · subst h3
      rw [max_self, if_neg h1, if_neg h1]
      by_cases h4 : i < n
      · rw [if_pos (.inr ⟨rfl, decide_eq_true h4⟩)]
      · have e : i = n := by omega
        subst e
        split <;> rfl
    · have h4 : a1 < y n := lt_of_le_of_ne (not_lt.1 h1) h3
      rw [if_neg (by rintro (h | ⟨h, -⟩); exacts [h1 h, h3 h]), max_eq_right h4.le, if_pos h4]

/-- The flattened argument, element by element. -/
theorem flat_apply (X : S128x32768.Idx → EReal) (n : Fin S4194304.numel) :
    shapeCast S4194304 X shapeCasts_S128x32768_S4194304 (S4194304.rowMajor.symm n) = xf X n.val := by
  show X _ = _
  have hn : n.val < 4194304 := n.isLt
  have e : Shape.reshapeEquiv shapeCasts_S128x32768_S4194304 (S4194304.rowMajor.symm n)
      = Shape.pair (d := ![128, 32768]) ⟨n.val / 32768, by show _ < 128; omega⟩ ⟨n.val % 32768, by show _ < 32768; omega⟩ := by
    apply Shape.reshapeEquiv_eq_of_rowMajor
    rw [Shape.rowMajor_pair_val, Equiv.apply_symm_apply]
    show n.val / 32768 * 32768 + n.val % 32768 = n.val
    omega
  rw [e]
  exact xf_pair X ⟨n.val / 32768, by omega⟩ ⟨n.val % 32768, by omega⟩ n.val (by show n.val = n.val / 32768 * 32768 + n.val % 32768; omega)

theorem iota_apply (n : Fin S4194304.numel) : iotaInDim S4194304 32 0 (S4194304.rowMajor.symm n) = BitVec.ofNat 32 n.val := by
  show BitVec.ofNat 32 _ = _
  congr 1
  have h := Shape.rowMajor_val_one (S4194304.rowMajor.symm n)
  rw [Equiv.apply_symm_apply] at h
  exact h.symm

theorem negInf : (FloatOps.ofBits (F := Ideal) .f32 0xFF800000#32) = (⊥ : EReal) := by
  show Ideal.ofBits .f32 0xFF800000#32 = ⊥
  simp [Ideal.ofBits, Ideal.ieee]

theorem fold_gen (n : ℕ) (hn : n ≤ N) (y : ℕ → EReal) (p : Fin n → EReal × BitVec 32) (hp : ∀ i, p i = (y i.val, BitVec.ofNat 32 i.val))
    (a : EReal × BitVec 32) (ha : a = (⊥, 0#32)) :
    (List.finRange n).foldl (fun c i => reducer_argmax_f32_i32 (F := Ideal) c (p i)) a = scan y (BitVec.ofNat 32) n := by
  refine foldl_finRange n _ a (fun n c => c = scan y (BitVec.ofNat 32) n) ha ?_
  rintro i c rfl
  show reducer_argmax_f32_i32 (F := Ideal) _ (p i) = _
  rw [hp]
  exact fold_step y i.val (Nat.lt_of_lt_of_le i.isLt hn)

theorem numel_eq : S4194304.numel = N := by decide +kernel

theorem out_def (X : FVec Ideal S128x32768 .f32) : out X = fun j => (Host.argReduce reducer_argmax_f32_i32 (shapeCast S4194304 X shapeCasts_S128x32768_S4194304) (iotaInDim S4194304 32 0) (constant S_ .f32 0xFF800000#32) (constantI S_ 32 0#32) reducesTo_S4194304_S_d0 h_S_ j).2 := rfl

theorem red_eq (X : FVec Ideal S128x32768 .f32) (j : S_.Idx) :
    Host.argReduce reducer_argmax_f32_i32 (shapeCast S4194304 X shapeCasts_S128x32768_S4194304) (iotaInDim S4194304 32 0) (constant S_ .f32 0xFF800000#32) (constantI S_ 32 0#32) reducesTo_S4194304_S_d0 h_S_ j
      = scan (xf X) (BitVec.ofNat 32) S4194304.numel := by
  rw [Ideal.argReduce_eq_reduce2, Host.reduce2_eq_foldl_fiber]
  unfold Host.argReduceFiber
  rw [List.filter_eq_self.2 fun n _ => decide_eq_true (funext fun a => a.elim0), List.foldl_map]
  refine fold_gen S4194304.numel numel_eq.le (xf X) _ (fun i => ?_) _ ?_
  · exact Prod.ext (flat_apply X i) (iota_apply i)
  · exact Prod.ext negInf rfl

theorem out_eq (X : FVec Ideal S128x32768 .f32) : out X = fun _ => (scan (xf X) (BitVec.ofNat 32) N).2 :=
  (out_def X).trans (funext fun j => congrArg Prod.snd ((red_eq X j).trans (by rw [numel_eq])))

/-- The reference's result. -/
theorem out_isRes (X : S128x32768.Idx → EReal) (j : S_.Idx) : IsRes (xf X) (out (F := Ideal) X j) := by
  rw [out_eq]
  have l := lane_of_scan (xf X) (xf X) (BitVec.ofNat 32) id id N (fun _ _ => rfl)
    (fun i hi => by show (BitVec.ofNat 32 i).toNat = i; rw [BitVec.toNat_ofNat]; have : N = 4194304 := rfl; omega)
    (fun _ _ h _ => h) (fun _ h => h) N_pos
  obtain ⟨h1, h2⟩ := scan_ok (xf X) (BitVec.ofNat 32) N
  generalize scan (xf X) (BitVec.ofNat 32) N = a at l h1 h2
  refine merge (ι := Unit) (xf X) (fun _ j => ∃ i < N, j = id i) (fun _ => a.1) (fun _ => a.2) (fun _ => l)
    (fun j hj => ⟨(), j, hj, rfl⟩) () (fun h => ?_) a.1 (fun _ => le_refl _) ⟨(), rfl⟩ _ (fun _ _ => le_refl _) ⟨(), rfl, rfl⟩
  rcases h2 with h2 | ⟨i, hi, e1, e2, e3⟩
  · exact h2.2
  · have := e3 0 N_pos (le_antisymm (h1 0 N_pos) (h.trans_le bot_le))
    rw [e1, Nat.le_zero.1 this]

end Cert.ReferenceIdeal.Pf

end
-- ==== Proof.ScVal.lean ====
/-
  One vector subcore's lanes at the ideal values: lane `l` of subcore `w` scans the 3072 elements
  `49152·w + 16·n + l` and keeps the first index of their maximum.
-/
module

public import proofs.«01_k».proof.Proof.Places
public import proofs.«01_k».proof.Proof.Pick

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Pick

theorem scan8 (y : ℕ → EReal) (g : ℕ → BitVec 32) (m : ℕ) :
    scan y g (m + 8) = stp (stp (stp (stp (stp (stp (stp (stp (scan y g m) (y (m + (0 : Fin 8).val)) (g (m + (0 : Fin 8).val))) (y (m + (1 : Fin 8).val)) (g (m + (1 : Fin 8).val)))
      (y (m + (2 : Fin 8).val)) (g (m + (2 : Fin 8).val))) (y (m + (3 : Fin 8).val)) (g (m + (3 : Fin 8).val))) (y (m + (4 : Fin 8).val)) (g (m + (4 : Fin 8).val)))
      (y (m + (5 : Fin 8).val)) (g (m + (5 : Fin 8).val))) (y (m + (6 : Fin 8).val)) (g (m + (6 : Fin 8).val))) (y (m + (7 : Fin 8).val)) (g (m + (7 : Fin 8).val)) := rfl

theorem sel {s : Shape} (v a : FVec Ideal s .f32) (w b : IVec s 32) : select (cmpf .ogt v a) w b = fun l => if a l < v l then w l else b l := by
  funext l
  show Scalar.select (BitVec.ofBool (decide (a l < v l))) (w l) (b l) = _
  by_cases h : a l < v l <;> simp [h, Scalar.select]

theorem stpV {s : Shape} (v a : FVec Ideal s .f32) (w b : IVec s 32) (l : s.Idx) :
    ((maximumf a v l, select (cmpf .ogt v a) w b l) : EReal × BitVec 32) = stp (a l, b l) (v l) (w l) := by
  rw [sel]; rfl

theorem cast16 (v : Vec Ideal S16 .f32) : (shapeCast S16 v shapeCasts_S16_S16 : FVec Ideal S16 .f32) = v := funext fun i => congrArg v (Shape.reshapeEquiv_self _ i)

theorem cast16i (v : IVec S16 32) : shapeCast S16 v shapeCasts_S16_S16 = v := funext fun i => congrArg v (Shape.reshapeEquiv_self _ i)

theorem label (c k u m : ℕ) (hm : m = c + 8 * k) :
    BitVec.ofNat 32 (m + u) = Scalar.addi (Scalar.addi (BitVec.ofNat 32 c) (Scalar.muli (Scf.iv 0#32 1#32 k) 8#32)) (BitVec.ofNat 32 u) := by
  subst hm
  apply BitVec.eq_of_toNat_eq
  simp only [Scalar.addi, Scalar.muli, Scf.iv, IntOp.addi, IntOp.muli, BitVec.toNat_add, BitVec.toNat_mul, BitVec.toNat_ofNat]
  omega

/-! ### Piece buffer 1 -/

theorem trips1 : k0_t1_loop.trips = 128 := by decide +kernel

theorem trip1_scan (B : S16384.Idx → EReal) (k : Fin k0_t1_loop.trips) (a : FVec Ideal S16 .f32 × IVec S16 32) (l : S16.Idx)
    (y : ℕ → EReal) (m : ℕ) (hm : m = 0 + 8 * k.val) (ha : scan y (BitVec.ofNat 32) m = (a.1 l, a.2 l))
    (hy : ∀ u : Fin 8, y (m + u.val) = ld1 (F := Ideal) B k u l) :
    scan y (BitVec.ofNat 32) (m + 8) = ((trip1 (F := Ideal) B k a).1 l, (trip1 (F := Ideal) B k a).2 l) := by
  have hk : k.val < 128 := k.isLt.trans_eq trips1
  have hg : ∀ u : Fin 8, BitVec.ofNat 32 (m + u.val) = Scalar.addi (Scalar.addi 0#32 (Scalar.muli (Scf.iv 0#32 1#32 k) 8#32)) (BitVec.ofNat 32 u.val) :=
    fun u => label 0 k.val u.val m hm
  rw [scan8, ha, hy 0, hy 1, hy 2, hy 3, hy 4, hy 5, hy 6, hy 7, hg 0, hg 1, hg 2, hg 3, hg 4, hg 5, hg 6, hg 7]
  simp only [trip1, k0_pay1, k0_pay2, k0_pay3, k0_pay4, k0_pay5, k0_pay6, k0_pay7, k0_pay8, k0_pay9, k0_pay10, k0_pay11, k0_pay12, k0_pay13, k0_pay14, k0_pay45, k0_pay46, k0_pay47, k0_pay48, k0_pay49, cast16, stpV]
  rfl

theorem iter1_scan (B : S16384.Idx → EReal) (a : FVec Ideal S16 .f32 × IVec S16 32) (l : S16.Idx)
    (y : ℕ → EReal) (ha : scan y (BitVec.ofNat 32) 0 = (a.1 l, a.2 l))
    (hy : ∀ (k : Fin k0_t1_loop.trips) (u : Fin 8), y (0 + 8 * k.val + u.val) = ld1 (F := Ideal) B k u l) (n : ℕ) (hn : n ≤ k0_t1_loop.trips) :
    scan y (BitVec.ofNat 32) (0 + 8 * n) = ((iter1 (F := Ideal) B a n).1 l, (iter1 (F := Ideal) B a n).2 l) := by
  induction n with
  | zero => exact ha
  | succ n ih =>
    have h := trip1_scan B ⟨n, hn⟩ (iter1 B a n) l y (0 + 8 * n) rfl (ih (Nat.le_of_succ_le hn)) (hy ⟨n, hn⟩)
    rw [← iter1_succ B a ⟨n, hn⟩] at h
    exact h

/-! ### Piece buffer 2 -/

theorem trips2 : k0_t2_loop.trips = 128 := by decide +kernel

theorem trip2_scan (B : S16384.Idx → EReal) (k : Fin k0_t2_loop.trips) (a : FVec Ideal S16 .f32 × IVec S16 32) (l : S16.Idx)
    (y : ℕ → EReal) (m : ℕ) (hm : m = 1024 + 8 * k.val) (ha : scan y (BitVec.ofNat 32) m = (a.1 l, a.2 l))
    (hy : ∀ u : Fin 8, y (m + u.val) = ld2 (F := Ideal) B k u l) :
    scan y (BitVec.ofNat 32) (m + 8) = ((trip2 (F := Ideal) B k a).1 l, (trip2 (F := Ideal) B k a).2 l) := by
  have hk : k.val < 128 := k.isLt.trans_eq trips2
  have hg : ∀ u : Fin 8, BitVec.ofNat 32 (m + u.val) = Scalar.addi (Scalar.addi 1024#32 (Scalar.muli (Scf.iv 0#32 1#32 k) 8#32)) (BitVec.ofNat 32 u.val) :=
    fun u => label 1024 k.val u.val m hm
  rw [scan8, ha, hy 0, hy 1, hy 2, hy 3, hy 4, hy 5, hy 6, hy 7, hg 0, hg 1, hg 2, hg 3, hg 4, hg 5, hg 6, hg 7]
  simp only [trip2, k0_pay15, k0_pay16, k0_pay17, k0_pay18, k0_pay19, k0_pay20, k0_pay21, k0_pay22, k0_pay23, k0_pay24, k0_pay25, k0_pay26, k0_pay27, k0_pay28, k0_pay50, k0_pay51, k0_pay52, k0_pay53, k0_pay54, cast16, stpV]
  rfl

theorem iter2_scan (B : S16384.Idx → EReal) (a : FVec Ideal S16 .f32 × IVec S16 32) (l : S16.Idx)
    (y : ℕ → EReal) (ha : scan y (BitVec.ofNat 32) 1024 = (a.1 l, a.2 l))
    (hy : ∀ (k : Fin k0_t2_loop.trips) (u : Fin 8), y (1024 + 8 * k.val + u.val) = ld2 (F := Ideal) B k u l) (n : ℕ) (hn : n ≤ k0_t2_loop.trips) :
    scan y (BitVec.ofNat 32) (1024 + 8 * n) = ((iter2 (F := Ideal) B a n).1 l, (iter2 (F := Ideal) B a n).2 l) := by
  induction n with
  | zero => exact ha
  | succ n ih =>
    have h := trip2_scan B ⟨n, hn⟩ (iter2 B a n) l y (1024 + 8 * n) rfl (ih (Nat.le_of_succ_le hn)) (hy ⟨n, hn⟩)
    rw [← iter2_succ B a ⟨n, hn⟩] at h
    exact h

/-! ### Piece buffer 3 -/

theorem trips3 : k0_t3_loop.trips = 128 := by decide +kernel

theorem trip3_scan (B : S16384.Idx → EReal) (k : Fin k0_t3_loop.trips) (a : FVec Ideal S16 .f32 × IVec S16 32) (l : S16.Idx)
    (y : ℕ → EReal) (m : ℕ) (hm : m = 2048 + 8 * k.val) (ha : scan y (BitVec.ofNat 32) m = (a.1 l, a.2 l))
    (hy : ∀ u : Fin 8, y (m + u.val) = ld3 (F := Ideal) B k u l) :
    scan y (BitVec.ofNat 32) (m + 8) = ((trip3 (F := Ideal) B k a).1 l, (trip3 (F := Ideal) B k a).2 l) := by
  have hk : k.val < 128 := k.isLt.trans_eq trips3
  have hg : ∀ u : Fin 8, BitVec.ofNat 32 (m + u.val) = Scalar.addi (Scalar.addi 2048#32 (Scalar.muli (Scf.iv 0#32 1#32 k) 8#32)) (BitVec.ofNat 32 u.val) :=
    fun u => label 2048 k.val u.val m hm
  rw [scan8, ha, hy 0, hy 1, hy 2, hy 3, hy 4, hy 5, hy 6, hy 7, hg 0, hg 1, hg 2, hg 3, hg 4, hg 5, hg 6, hg 7]
  simp only [trip3, k0_pay29, k0_pay30, k0_pay31, k0_pay32, k0_pay33, k0_pay34, k0_pay35, k0_pay36, k0_pay37, k0_pay38, k0_pay39, k0_pay40, k0_pay41, k0_pay42, k0_pay55, k0_pay56, k0_pay57, k0_pay58, k0_pay59, cast16, stpV]
  rfl

theorem iter3_scan (B : S16384.Idx → EReal) (a : FVec Ideal S16 .f32 × IVec S16 32) (l : S16.Idx)
    (y : ℕ → EReal) (ha : scan y (BitVec.ofNat 32) 2048 = (a.1 l, a.2 l))
    (hy : ∀ (k : Fin k0_t3_loop.trips) (u : Fin 8), y (2048 + 8 * k.val + u.val) = ld3 (F := Ideal) B k u l) (n : ℕ) (hn : n ≤ k0_t3_loop.trips) :
    scan y (BitVec.ofNat 32) (2048 + 8 * n) = ((iter3 (F := Ideal) B a n).1 l, (iter3 (F := Ideal) B a n).2 l) := by
  induction n with
  | zero => exact ha
  | succ n ih =>
    have h := trip3_scan B ⟨n, hn⟩ (iter3 B a n) l y (2048 + 8 * n) rfl (ih (Nat.le_of_succ_le hn)) (hy ⟨n, hn⟩)
    rw [← iter3_succ B a ⟨n, hn⟩] at h
    exact h

/-! ### The lane -/

/-- The elements lane `l` of subcore `L` scans. -/
def scY (X : S128x32768.Idx → EReal) (L : grid0.Coords) (l : S16.Idx) (n : ℕ) : EReal := xf X (49152 * (wid L).val + 16 * n + (l 0).val)

theorem piece_at (X : S128x32768.Idx → EReal) (L : grid0.Coords) (r : Fin 3) (j : S16384.Idx) :
    pieceC (F := Ideal) X L r j = xf X (16384 * (3 * (wid L).val + r.val) + (j 0).val) := by
  rw [pieceC_apply]
  refine xf_pair X _ _ _ ?_
  show _ = (3 * (wid L).val + r.val) / 2 * 32768 + ((3 * (wid L).val + r.val) % 2 * 16384 + (j 0).val)
  omega

theorem ld1_at (X : S128x32768.Idx → EReal) (L : grid0.Coords) (l : S16.Idx) (k : Fin k0_t1_loop.trips) (u : Fin 8) :
    scY X L l (0 + 8 * k.val + u.val) = ld1 (F := Ideal) (pieceC X L 0) k u l := by
  rw [ld1_apply, piece_at]
  unfold scY
  congr 1
  show _ = 16384 * (3 * (wid L).val + 0) + (128 * k.val + 16 * u.val + (l 0).val)
  omega

theorem ld2_at (X : S128x32768.Idx → EReal) (L : grid0.Coords) (l : S16.Idx) (k : Fin k0_t2_loop.trips) (u : Fin 8) :
    scY X L l (1024 + 8 * k.val + u.val) = ld2 (F := Ideal) (pieceC X L 1) k u l := by
  rw [ld2_apply, piece_at]
  unfold scY
  congr 1
  show _ = 16384 * (3 * (wid L).val + 1) + (128 * k.val + 16 * u.val + (l 0).val)
  omega

theorem ld3_at (X : S128x32768.Idx → EReal) (L : grid0.Coords) (l : S16.Idx) (k : Fin k0_t3_loop.trips) (u : Fin 8) :
    scY X L l (2048 + 8 * k.val + u.val) = ld3 (F := Ideal) (pieceC X L 2) k u l := by
  rw [ld3_apply, piece_at]
  unfold scY
  congr 1
  show _ = 16384 * (3 * (wid L).val + 2) + (128 * k.val + 16 * u.val + (l 0).val)
  omega

theorem negInf : (FloatOps.ofBits (F := Ideal) .f32 0xFF800000#32) = (⊥ : EReal) := by
  show Ideal.ofBits .f32 0xFF800000#32 = ⊥
  simp [Ideal.ofBits, Ideal.ieee]

theorem acc1_scan (X : S128x32768.Idx → EReal) (L : grid0.Coords) (l : S16.Idx) :
    scan (scY X L l) (BitVec.ofNat 32) 1024 = ((acc1 (F := Ideal) X L).1 l, (acc1 (F := Ideal) X L).2 l) := by
  have h := iter1_scan (pieceC (F := Ideal) X L 0) (k0_pay43, k0_pay44) l (scY X L l) (Prod.ext negInf.symm rfl) (ld1_at X L l) k0_t1_loop.trips le_rfl
  rwa [show 0 + 8 * k0_t1_loop.trips = 1024 by rw [trips1]] at h

theorem acc2_scan (X : S128x32768.Idx → EReal) (L : grid0.Coords) (l : S16.Idx) :
    scan (scY X L l) (BitVec.ofNat 32) 2048 = ((acc2 (F := Ideal) X L).1 l, (acc2 (F := Ideal) X L).2 l) := by
  have h := iter2_scan (pieceC (F := Ideal) X L 1) (acc1 X L) l (scY X L l) (acc1_scan X L l) (ld2_at X L l) k0_t2_loop.trips le_rfl
  rwa [show 1024 + 8 * k0_t2_loop.trips = 2048 by rw [trips2]] at h

theorem acc3_scan (X : S128x32768.Idx → EReal) (L : grid0.Coords) (l : S16.Idx) :
    scan (scY X L l) (BitVec.ofNat 32) 3072 = ((acc3 (F := Ideal) X L).1 l, (acc3 (F := Ideal) X L).2 l) := by
  have h := iter3_scan (pieceC (F := Ideal) X L 2) (acc2 X L) l (scY X L l) (acc2_scan X L l) (ld3_at X L l) k0_t3_loop.trips le_rfl
  rwa [show 2048 + 8 * k0_t3_loop.trips = 3072 by rw [trips3]] at h

/-- From a lane's step number to the flat index, as the kernel computes it. -/
def scR (L : grid0.Coords) (l : S16.Idx) (b : BitVec 32) : BitVec 32 := b * 16#32 + BitVec.ofNat 32 (l 0).val + baseW L

theorem baseW_toNat (L : grid0.Coords) : (baseW L).toNat = 49152 * (wid L).val := by
  have h0 := L0_lt L
  have h1 := L1_lt L
  simp only [baseW, Scalar.addi, Scalar.muli, IntOp.addi, IntOp.muli, BitVec.toNat_add, BitVec.toNat_mul, BitVec.toNat_ofNat, wid]
  omega

theorem scR_toNat (L : grid0.Coords) (l : S16.Idx) (n : ℕ) (hn : n < 3072) : (scR L l (BitVec.ofNat 32 n)).toNat = 49152 * (wid L).val + 16 * n + (l 0).val := by
  have h0 := (wid L).isLt
  have h1 : (l 0).val < 16 := (l 0).isLt
  unfold scR
  rw [BitVec.toNat_add, BitVec.toNat_add, BitVec.toNat_mul, baseW_toNat]
  simp only [BitVec.toNat_ofNat]
  omega

theorem tileV_eq (X : S128x32768.Idx → EReal) (L : grid0.Coords) (l : S16.Idx) : tileV (F := Ideal) X L l = (scan (scY X L l) (BitVec.ofNat 32) 3072).1 := by
  rw [acc3_scan]
  unfold tileV k0_pay60
  rw [cast16]

theorem tileI_eq (X : S128x32768.Idx → EReal) (L : grid0.Coords) (l : S16.Idx) :
    tileI (F := Ideal) X L l = scR L l (scan (scY X L l) (BitVec.ofNat 32) 3072).2 := by
  rw [acc3_scan]
  unfold tileI k0_pay61
  rw [cast16i]
  show (acc3 (F := Ideal) X L).2 l * 16#32 + BitVec.ofNat 32 (0 * 16 + (l 0).val) + baseW L = _
  rw [Nat.zero_mul, Nat.zero_add]
  rfl

theorem sc_lane (X : S128x32768.Idx → EReal) (L : grid0.Coords) (l : S16.Idx) :
    Lane (xf X) (fun j => ∃ n < 3072, j = 49152 * (wid L).val + 16 * n + (l 0).val) (tileV (F := Ideal) X L l) (tileI (F := Ideal) X L l) := by
  rw [tileV_eq, tileI_eq]
  have h0 := (wid L).isLt
  have h1 : (l 0).val < 16 := (l 0).isLt
  have hN : N = 4194304 := rfl
  exact lane_of_scan (xf X) (scY X L l) (BitVec.ofNat 32) (scR L l) (fun n => 49152 * (wid L).val + 16 * n + (l 0).val) 3072
    (fun _ _ => rfl) (fun n hn => scR_toNat L l n hn) (fun i j h _ => by show _ + _ + _ ≤ _ + _ + _; omega) (fun i hi => by show _ + _ + _ < _; omega)
    (by have := scR_toNat L l 0 (by omega); rw [this]; omega)

/-- A lane that met only the least value keeps its first index. -/
theorem sc_bot (X : S128x32768.Idx → EReal) (L : grid0.Coords) (l : S16.Idx) (h : tileV (F := Ideal) X L l = ⊥) :
    tileI (F := Ideal) X L l = scR L l 0#32 := by
  rw [tileI_eq]
  rw [tileV_eq] at h
  obtain ⟨h1, h2⟩ := scan_ok (scY X L l) (BitVec.ofNat 32) 3072
  rcases h2 with ⟨-, h2⟩ | ⟨i, hi, e1, e2, e3⟩
  · rw [h2]
  · have h3 := e3 0 (by omega) (le_antisymm (h1 0 (by omega)) (h.trans_le bot_le))
    rw [e1, Nat.le_zero.1 h3]

end Cert.KernelIdeal.Pf
-- ==== Proof.TcScan.lean ====
/-
  The scan's lanes at the ideal values: lane `(r, l)` scans, over the grid's ten blocks of 128 pieces, the
  elements at row `48 + 16·j + r` and column `16384·k + 128·n + l`, and keeps the first index of their maximum.
-/
module

public import proofs.«01_k».proof.Proof.Reg1
public import proofs.«01_k».proof.Proof.ScVal
public import Idealize.ShloMosaic.Lib.Pipeline.ValueKit

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Pick
open Idealize.ShloMosaic.Pipeline (Dat Cfg Window BodyObligation)
open Idealize.ShloMosaic.TcCoe

namespace R1

variable (V : (c : Dev nD) → (b : Ref sig .tc) → Buf (Elt Ideal) ((T c : Thread nD τ).loc b))

theorem index_0 : ∀ t : Fin cfg1.N, win1_0.index t = ![t.val / 2 + 3, t.val % 2] :=
  (by decide +kernel : ∀ t : Fin grid1.N, win1_0.index t = ![t.val / 2 + 3, t.val % 2])

theorem coords_1 : ∀ t : Fin cfg1.N, (grid1.coords t 0).val = t.val / 2 ∧ (grid1.coords t 1).val = t.val % 2 :=
  (by decide +kernel : ∀ t : Fin grid1.N, (grid1.coords t 0).val = t.val / 2 ∧ (grid1.coords t 1).val = t.val % 2)

theorem first_iff : ∀ t : Fin cfg1.N, firstB (grid1.coords t) = 1#1 → t.val = 0 :=
  (by decide +kernel : ∀ t : Fin grid1.N, firstB (grid1.coords t) = 1#1 → t.val = 0)

theorem t_lt (t : Fin cfg1.N) : t.val < 10 := t.isLt

/-- The flat index of a lane's `k`-th element. -/
def tcP (l : S16x128.Idx) (k : ℕ) : ℕ := 1572864 + k / 256 * 524288 + k / 128 % 2 * 16384 + k % 128 * 128 + (l 0).val * 32768 + (l 1).val

theorem l0_lt (l : S16x128.Idx) : (l 0).val < 16 := (l 0).isLt
theorem l1_lt (l : S16x128.Idx) : (l 1).val < 128 := (l 1).isLt

/-- The block of point `t`, element by element. -/
theorem stg_apply (c : Dev nD) (t : Fin cfg1.N) (q : S16x16384.Idx) :
    stg (F := Ideal) V c t q = V c main_arg0 (Shape.pair (d := ![128, 32768])
      ⟨(t.val / 2 + 3) * 16 + (q 0).val, by have := t_lt t; have : (q 0).val < 16 := (q 0).isLt; show _ < 128; omega⟩
      ⟨t.val % 2 * 16384 + (q 1).val, by have : (q 1).val < 16384 := (q 1).isLt; show _ < 32768; omega⟩) := by
  show V c main_arg0 (((cfg1.win 0).blk t).view.emb q) = _
  congr 1
  funext a
  apply Fin.ext
  have e := index_0 t
  match a with
  | 0 =>
    blk_simp [e]
    rfl
  | 1 =>
    blk_simp [e]
    rfl

/-- The piece step `n` of point `t` loads, element by element. -/
theorem ldB_at (c : Dev nD) (t : Fin cfg1.N) (n : ℕ) (hn : n < 128) (l : S16x128.Idx) :
    xf (V c main_arg0) (tcP l (128 * t.val + n)) = ldB (F := Ideal) (stg V c t) n l := by
  unfold ldB
  rw [stg_apply]
  have h0 := l0_lt l
  have h1 := l1_lt l
  have ht := t_lt t
  refine (xf_pair _ _ _ _ ?_).symm
  show tcP l (128 * t.val + n) = ((t.val / 2 + 3) * 16 + (0 + 1 * (l 0).val)) * 32768 + (t.val % 2 * 16384 + (128 * (n % 128) + 1 * (l 1).val))
  unfold tcP
  omega

/-- The label step `n` of point `t` gives its piece. -/
theorem label_at (t : Fin cfg1.N) (n : ℕ) (hn : n < 128) (l : S16x128.Idx) :
    BitVec.ofNat 32 (tcP l (128 * t.val + n)) = addi (k1_pay3 (grid1.coords t)) (broadcast S16x128 (BitVec.ofNat 32 (128 * n))) l := by
  have ht := t_lt t
  obtain ⟨c0, c1⟩ := coords_1 t
  show _ = ((BitVec.ofNat 32 (0 * 16 + (l 0).val) * 32768#32 + BitVec.ofNat 32 (0 * 128 + (l 1).val))
    + (1572864#32 + BitVec.ofNat 32 (grid1.coords t 0).val * 524288#32 + BitVec.ofNat 32 (grid1.coords t 1).val * 16384#32)) + BitVec.ofNat 32 (128 * n)
  rw [c0, c1]
  have h0 := l0_lt l
  have h1 := l1_lt l
  apply BitVec.eq_of_toNat_eq
  simp only [BitVec.toNat_add, BitVec.toNat_mul, BitVec.toNat_ofNat]
  unfold tcP
  omega

/-- The elements a lane scans, and their labels. -/
def tcY (c : Dev nD) (l : S16x128.Idx) (k : ℕ) : EReal := xf (V c main_arg0) (tcP l k)
def tcG (l : S16x128.Idx) (k : ℕ) : BitVec 32 := BitVec.ofNat 32 (tcP l k)

theorem tcIt_scan (c : Dev nD) (t : Fin cfg1.N) (a : FVec Ideal S16x128 .f32 × IVec S16x128 32) (l : S16x128.Idx)
    (ha : scan (tcY V c l) (tcG l) (128 * t.val) = (a.1 l, a.2 l)) (n : ℕ) (hn : n ≤ 128) :
    scan (tcY V c l) (tcG l) (128 * t.val + n)
      = ((tcIt (F := Ideal) (grid1.coords t) (ldB (stg V c t)) a n).1 l, (tcIt (F := Ideal) (grid1.coords t) (ldB (stg V c t)) a n).2 l) := by
  induction n with
  | zero => exact ha
  | succ n ih =>
    show stp (scan (tcY V c l) (tcG l) (128 * t.val + n)) (tcY V c l (128 * t.val + n)) (tcG l (128 * t.val + n)) = _
    rw [ih (Nat.le_of_succ_le hn), show tcY V c l (128 * t.val + n) = _ from ldB_at V c t n hn l, show tcG l (128 * t.val + n) = _ from label_at t n hn l]
    exact (stpV (s := S16x128) (ldB (F := Ideal) (stg V c t) n) _ _ _ l).symm

theorem scr_scan (c : Dev nD) (l : S16x128.Idx) (n : ℕ) (hn : n ≤ 10) :
    scan (tcY V c l) (tcG l) (128 * n) = ((scr (F := Ideal) V c n).1 l, (scr (F := Ideal) V c n).2 l) := by
  have h0 : scan (tcY V c l) (tcG l) (128 * 0) = ((k1_pay1 (F := Ideal)) l, k1_pay2 l) := Prod.ext negInf.symm rfl
  induction n with
  | zero => exact h0
  | succ n ih =>
    have e := scr_succ (F := Ideal) V c ⟨n, hn⟩
    simp only at e
    rw [e]
    unfold tcNext
    refine tcIt_scan V c ⟨n, hn⟩ _ l ?_ 128 le_rfl
    unfold tcStart
    split
    · next h =>
      have := first_iff ⟨n, hn⟩ h
      simp only at this
      subst this
      exact h0
    · exact ih (Nat.le_of_succ_le hn)

theorem tcP_lt (l : S16x128.Idx) (k : ℕ) (hk : k < 1280) : tcP l k < N := by
  have h0 := l0_lt l
  have h1 := l1_lt l
  have hN : N = 4194304 := rfl
  unfold tcP
  omega

/-- What a lane of the scan ends with. -/
theorem tc_lane (c : Dev nD) (l : S16x128.Idx) :
    Lane (xf (V c main_arg0)) (fun j => ∃ k < 1280, j = tcP l k) ((scr (F := Ideal) V c 10).1 l) ((scr (F := Ideal) V c 10).2 l) := by
  have h := scr_scan V c l 10 le_rfl
  have h' := lane_of_scan (xf (V c main_arg0)) (tcY V c l) (tcG l) id (tcP l) 1280 (fun _ _ => rfl)
    (fun i hi => by
      have := tcP_lt l i hi
      have hN : N = 4194304 := rfl
      show (BitVec.ofNat 32 (tcP l i)).toNat = _
      rw [BitVec.toNat_ofNat]
      omega)
    (fun i j hij hj => by unfold tcP; omega) (fun i hi => tcP_lt l i hi) N_pos
  rw [show (1280 : ℕ) = 128 * 10 from rfl, h] at h'
  exact h'

end R1

end Cert.KernelIdeal.Pf
-- ==== Proof.MgVal.lean ====
/-
  The merge at the ideal values: of lanes that together saw every index, the first index of the maximum.
-/
module

public import proofs.«01_k».proof.Proof.RegBase
public import proofs.«01_k».proof.Proof.Pick

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Pick

theorem minsi_or (a b : BitVec 32) : IntOp.minsi a b = a ∨ IntOp.minsi a b = b := by
  unfold IntOp.minsi; split
  · exact .inl rfl
  · exact .inr rfl

theorem minsi_le (a b : BitVec 32) : (IntOp.minsi a b).toInt ≤ a.toInt ∧ (IntOp.minsi a b).toInt ≤ b.toInt := by
  unfold IntOp.minsi
  by_cases h : a.slt b = true
  · rw [if_pos h]
    have := BitVec.slt_iff_toInt_lt.1 h
    exact ⟨le_refl _, this.le⟩
  · rw [if_neg h]
    have : ¬ a.toInt < b.toInt := fun h' => h (BitVec.slt_iff_toInt_lt.2 h')
    exact ⟨not_lt.1 this, le_refl _⟩

theorem s1_all {u : Shape} {axes : List (Fin u.rank)} (h : u.Reduces axes S1) (j : S1.Idx) :
    (Finset.univ.filter fun i => h.drop i = j) = (Finset.univ : Finset u.Idx) := by
  refine Finset.filter_true_of_mem fun i _ => funext fun a => ?_
  obtain rfl : a = 0 := Subsingleton.elim (α := Fin 1) a 0
  exact Subsingleton.elim (α := Fin 1) _ _

/-- The largest element of an array, as the merge takes it. -/
def mxOf {s : Shape} (u : Shape) (hs : s.ShapeCasts u) {axes : List (Fin u.rank)} (h : u.Reduces axes S1) (x : FVec Ideal s .f32) (j : S1.Idx) : EReal :=
  multiReduction (F := Ideal) .maximumf axes S1 (shapeCast u x hs) 0xFF800000#32 h (.inl rfl) rfl j

theorem mxOf_ok {s : Shape} (u : Shape) (hs : s.ShapeCasts u) {axes : List (Fin u.rank)} (h : u.Reduces axes S1) (x : FVec Ideal s .f32) (j : S1.Idx) (i₀ : s.Idx) :
    (∀ i, x i ≤ mxOf u hs h x j) ∧ ∃ i, x i = mxOf u hs h x j := by
  have e : mxOf u hs h x j = (Finset.univ : Finset u.Idx).fold max (⊥ : EReal) (shapeCast u x hs) := by
    refine (multiReduction_maximumf_eq_fold (shapeCast u x hs) _ h _ _ j).trans ?_
    rw [s1_all]
    show Finset.fold max (Ideal.ofBits .f32 0xFF800000#32) _ _ = _
    rw [show Ideal.ofBits .f32 0xFF800000#32 = (⊥ : EReal) by simp [Ideal.ofBits, Ideal.ieee]]
  have h1 : ∀ i, x i ≤ mxOf u hs h x j := fun i => by
    rw [e]
    refine (Finset.le_fold_max _).2 (.inr ⟨(Shape.reshapeEquiv hs).symm i, Finset.mem_univ _, ?_⟩)
    show x i ≤ x _
    rw [Equiv.apply_symm_apply]
  refine ⟨h1, ?_⟩
  have h2 : mxOf u hs h x j ≤ mxOf u hs h x j := le_refl _
  conv at h2 => rhs; rw [e]
  rcases (Finset.le_fold_max _).1 h2 with h2 | ⟨i, -, h2⟩
  · exact ⟨i₀, le_antisymm (h1 _) (h2.trans bot_le)⟩
  · exact ⟨Shape.reshapeEquiv hs i, le_antisymm (h1 _) h2⟩

/-- The smallest label of an array, as the merge takes it. -/
def mnOf {s : Shape} (u : Shape) (hs : s.ShapeCasts u) {axes : List (Fin u.rank)} (h : u.Reduces axes S1) (x : IVec s 32) (j : S1.Idx) : BitVec 32 :=
  multiReductionI .minsi axes S1 (shapeCast u x hs) 2147483647#32 h rfl j

theorem mnOf_ok {s : Shape} (u : Shape) (hs : s.ShapeCasts u) {axes : List (Fin u.rank)} (h : u.Reduces axes S1) (x : IVec s 32) (j : S1.Idx) :
    (∀ i, (mnOf u hs h x j).toInt ≤ (x i).toInt) ∧ (mnOf u hs h x j = 2147483647#32 ∨ ∃ i, mnOf u hs h x j = x i) := by
  classical
  have e : mnOf u hs h x j = (Finset.univ : Finset u.Idx).fold (IKind.op .minsi) 2147483647#32 (shapeCast u x hs) := by
    refine (multiReductionI_eq_fold .minsi (shapeCast u x hs) _ h _ j).trans ?_
    rw [s1_all]
  obtain ⟨h1, h2⟩ := fold_min (IKind.op .minsi) minsi_or minsi_le (Finset.univ : Finset u.Idx) 2147483647#32 (shapeCast u x hs)
  rw [← e] at h1 h2
  refine ⟨fun i => ?_, ?_⟩
  · have := h1 ((Shape.reshapeEquiv hs).symm i) (Finset.mem_univ _)
    rwa [show shapeCast u x hs ((Shape.reshapeEquiv hs).symm i) = x i from congrArg x (Equiv.apply_symm_apply _ i)] at this
  · rcases h2 with h2 | ⟨i, -, h2⟩
    · exact .inl h2
    · exact .inr ⟨Shape.reshapeEquiv hs i, h2⟩

/-- The labels of the elements equal to `mx`, the largest 32-bit integer elsewhere. -/
def cand {s : Shape} (v : FVec Ideal s .f32) (b : IVec s 32) (mx : EReal) : IVec s 32 := fun i => if v i = mx then b i else 2147483647#32

theorem cand_eq {s : Shape} (v : FVec Ideal s .f32) (b : IVec s 32) (mx : EReal) :
    select (cmpf .oeq v (broadcast s (mx : Ideal .f32))) b (broadcast s 2147483647#32) = cand v b mx := by
  funext i
  show Scalar.select (BitVec.ofBool (decide (v i = mx))) (b i) 2147483647#32 = _
  unfold cand
  by_cases h : v i = mx <;> simp [h, Scalar.select]

/-- Where the merge reads its one-element vectors. -/
def q1 : S1.Idx := Shape.reshapeEquiv shapeCasts_S1_S1x1x1 (fun a => ⟨(![0, 0, 0] : Fin 3 → ℕ) a, inpos_S1x1x1_p0_0_0 a⟩)

def mgMx (v0 : FVec Ideal S32x16 .f32) (v2 : FVec Ideal S16x128 .f32) : EReal :=
  max (mxOf S1x32x16 shapeCasts_S32x16_S1x32x16 reduces_S1x32x16_S1 v0 q1) (mxOf S1x16x128 shapeCasts_S16x128_S1x16x128 reduces_S1x16x128_S1 v2 q1)

theorem pay_eq (v0 : FVec Ideal S32x16 .f32) (v1 : IVec S32x16 32) (v2 : FVec Ideal S16x128 .f32) (v4 : IVec S16x128 32) (j : S1x1.Idx) :
    k2_pay1 (F := Ideal) v0 v1 v2 v4 j
      = IntOp.minsi (mnOf S1x32x16 shapeCasts_S32x16_S1x32x16 reduces_S1x32x16_S1 (cand v0 v1 (mgMx v0 v2)) q1)
          (mnOf S1x16x128 shapeCasts_S16x128_S1x16x128 reduces_S1x16x128_S1 (cand v2 v4 (mgMx v0 v2)) q1) := by
  have e2 : shapeCast S16x128 v2 shapeCasts_S16x128_S16x128 = v2 := funext fun i => congrArg v2 (Shape.reshapeEquiv_self _ i)
  have e4 : shapeCast S16x128 v4 shapeCasts_S16x128_S16x128 = v4 := funext fun i => congrArg v4 (Shape.reshapeEquiv_self _ i)
  rw [← cand_eq, ← cand_eq]
  unfold k2_pay1
  rw [e2, e4]
  rfl

/-- The merge of lanes that together saw every index. -/
theorem pay_isRes (x : ℕ → EReal) (v0 : FVec Ideal S32x16 .f32) (v1 : IVec S32x16 32) (v2 : FVec Ideal S16x128 .f32) (v4 : IVec S16x128 32) (j : S1x1.Idx)
    (A : S32x16.Idx → ℕ → Prop) (B : S16x128.Idx → ℕ → Prop) (hA : ∀ i, Lane x (A i) (v0 i) (v1 i)) (hB : ∀ i, Lane x (B i) (v2 i) (v4 i))
    (hc : ∀ k < N, (∃ i, A i k) ∨ ∃ i, B i k) (i₀ : S32x16.Idx) (h₀ : v0 i₀ = ⊥ → v1 i₀ = 0#32) (i₁ : S16x128.Idx) :
    IsRes x (k2_pay1 (F := Ideal) v0 v1 v2 v4 j) := by
  rw [pay_eq]
  have m1 := mxOf_ok S1x32x16 shapeCasts_S32x16_S1x32x16 reduces_S1x32x16_S1 v0 q1 i₀
  have m2 := mxOf_ok S1x16x128 shapeCasts_S16x128_S1x16x128 reduces_S1x16x128_S1 v2 q1 i₁
  have hm0 : ∀ i, v0 i ≤ mgMx v0 v2 := fun i => (m1.1 i).trans (le_max_left _ _)
  have hm2 : ∀ i, v2 i ≤ mgMx v0 v2 := fun i => (m2.1 i).trans (le_max_right _ _)
  have hex : (∃ i, v0 i = mgMx v0 v2) ∨ ∃ i, v2 i = mgMx v0 v2 := by
    rcases max_choice (mxOf S1x32x16 shapeCasts_S32x16_S1x32x16 reduces_S1x32x16_S1 v0 q1) (mxOf S1x16x128 shapeCasts_S16x128_S1x16x128 reduces_S1x16x128_S1 v2 q1) with e | e
    · exact .inl (m1.2.imp fun i hi => hi.trans e.symm)
    · exact .inr (m2.2.imp fun i hi => hi.trans e.symm)
  generalize mgMx v0 v2 = mx at hm0 hm2 hex
  have n1 := mnOf_ok S1x32x16 shapeCasts_S32x16_S1x32x16 reduces_S1x32x16_S1 (cand v0 v1 mx) q1
  have n2 := mnOf_ok S1x16x128 shapeCasts_S16x128_S1x16x128 reduces_S1x16x128_S1 (cand v2 v4 mx) q1
  generalize mnOf S1x32x16 shapeCasts_S32x16_S1x32x16 reduces_S1x32x16_S1 (cand v0 v1 mx) q1 = r1 at n1
  generalize mnOf S1x16x128 shapeCasts_S16x128_S1x16x128 reduces_S1x16x128_S1 (cand v2 v4 mx) q1 = r2 at n2
  have hor := minsi_or r1 r2
  have hle := minsi_le r1 r2
  generalize IntOp.minsi r1 r2 = out at hor hle
  have hN : N = 4194304 := rfl
  have hint : ∀ b : BitVec 32, b.toNat < N → b.toInt = b.toNat := fun b hb => BitVec.toInt_eq_toNat_of_lt (by omega)
  -- one family over both kinds of lane
  let v : S32x16.Idx ⊕ S16x128.Idx → EReal := Sum.elim v0 v2
  let b : S32x16.Idx ⊕ S16x128.Idx → BitVec 32 := Sum.elim v1 v4
  have hl : ∀ l, Lane x (Sum.elim A B l) (v l) (b l) := fun l => match l with
    | .inl i => hA i
    | .inr i => hB i
  have hlow : ∀ l, v l = mx → out.toInt ≤ (b l).toInt := fun l => match l with
    | .inl i => fun (h : v0 i = mx) => by
      have := n1.1 i
      rw [show cand v0 v1 mx i = v1 i from if_pos h] at this
      exact hle.1.trans this
    | .inr i => fun (h : v2 i = mx) => by
      have := n2.1 i
      rw [show cand v2 v4 mx i = v4 i from if_pos h] at this
      exact hle.2.trans this
  have hsrc : out = 2147483647#32 ∨ ∃ l, v l = mx ∧ out = b l := by
    have c1 : r1 = 2147483647#32 ∨ ∃ l, v l = mx ∧ r1 = b l := by
      rcases n1.2 with h | ⟨i, h⟩
      · exact .inl h
      · by_cases hi : v0 i = mx
        · exact .inr ⟨.inl i, hi, h.trans (if_pos hi)⟩
        · exact .inl (h.trans (if_neg hi))
    have c2 : r2 = 2147483647#32 ∨ ∃ l, v l = mx ∧ r2 = b l := by
      rcases n2.2 with h | ⟨i, h⟩
      · exact .inl h
      · by_cases hi : v2 i = mx
        · exact .inr ⟨.inr i, hi, h.trans (if_pos hi)⟩
        · exact .inl (h.trans (if_neg hi))
    rcases hor with e | e
    · rw [e]; exact c1
    · rw [e]; exact c2
  have hm' : ∃ l, v l = mx := by
    rcases hex with ⟨i, hi⟩ | ⟨i, hi⟩
    · exact ⟨.inl i, hi⟩
    · exact ⟨.inr i, hi⟩
  have ho' : ∃ l, v l = mx ∧ out = b l := by
    rcases hsrc with e | h
    · obtain ⟨l, hv⟩ := hm'
      have h1 := hlow l hv
      have h2 := (hl l).lt
      rw [e, hint _ h2] at h1
      have h3 : (2147483647#32 : BitVec 32).toInt = 2147483647 := by decide
      rw [h3] at h1
      omega
    · exact h
  refine merge x (Sum.elim A B) v b hl (fun k hk => ?_) (.inl i₀) h₀ mx (fun l => ?_) hm' out (fun l hv => ?_) ho'
  · rcases hc k hk with ⟨i, hi⟩ | ⟨i, hi⟩
    · exact ⟨.inl i, hi⟩
    · exact ⟨.inr i, hi⟩
  · match l with
    | .inl i => exact hm0 i
    | .inr i => exact hm2 i
  · obtain ⟨l', -, e⟩ := ho'
    have h1 := hlow l hv
    rw [hint _ (hl l).lt, e, hint _ (hl l').lt] at h1
    rw [e]
    exact_mod_cast h1

end Cert.KernelIdeal.Pf
-- ==== Proof.Values.lean ====
/-
  The value of the program at the ideal values: the first index of the largest element.
-/
module

public import proofs.«01_k».proof.Proof.Main
public import proofs.«01_k».proof.Proof.ScVal
public import proofs.«01_k».proof.Proof.TcScan
public import proofs.«01_k».proof.Proof.MgVal
public import Idealize.ShloMosaic.Lib.Pipeline.ValueKit

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Pick
open Idealize.ShloMosaic.Pipeline (Dat Cfg Window BodyObligation)
open Idealize.ShloMosaic.TcCoe

/-! ## What the regions leave in their arrays -/

section Arrays

variable {F : FTy → Type} [FloatOps F]
variable (V : (c : Dev nD) → (b : Ref sig .tc) → Buf (Elt F) ((T c : Thread nD τ).loc b)) (k : ℕ) (c : Dev nD)

def t9 : Fin cfg1.N := ⟨9, (by decide : 9 < grid1.N)⟩
def t0 : Fin cfg2.N := ⟨0, (by decide : 0 < grid2.N)⟩

theorem whole1_1 : win1_1.WholeAt t9 := (by decide +kernel : win1_1.WholeAt (⟨9, by decide⟩ : Fin grid1.N))
theorem whole1_2 : win1_2.WholeAt t9 := (by decide +kernel : win1_2.WholeAt (⟨9, by decide⟩ : Fin grid1.N))
theorem whole2_4 : win2_4.WholeAt t0 := (by decide +kernel : win2_4.WholeAt (⟨0, by decide⟩ : Fin grid2.N))

theorem arr1_1 : (R1.dat V k c).arrAt 1 cfg1.N = (R1.scr V c 10).1 := by
  funext i
  exact ((R1.dat V k c).arrAt_emb_eq_after_last 1 t9 whole1_1 i).trans rfl
theorem arr1_2 : (R1.dat V k c).arrAt 2 cfg1.N = (R1.scr V c 10).2 := by
  funext i
  exact ((R1.dat V k c).arrAt_emb_eq_after_last 2 t9 whole1_2 i).trans rfl
theorem after2_4 (t : Fin cfg2.N) : (R2.dat V k c).after 4 t = R2.mg V c t := by
  unfold R2.dat
  dsimp only
theorem arr2_4 : (R2.dat V k c).arrAt 4 cfg2.N = R2.mg V c t0 := by
  have h := after2_4 V k c t0
  generalize R2.mg V c t0 = y at h ⊢
  refine (R2.dat V k c).arrAt_eq_of_after_last 4 t0 whole2_4 y (fun j => ?_)
  rw [h]
  rfl

theorem index2_0 : ∀ t : Fin cfg2.N, win2_0.index t = ![0, 0] := (by decide +kernel : ∀ t : Fin grid2.N, win2_0.index t = ![0, 0])
theorem index2_1 : ∀ t : Fin cfg2.N, win2_1.index t = ![0, 0] := (by decide +kernel : ∀ t : Fin grid2.N, win2_1.index t = ![0, 0])
theorem index2_2 : ∀ t : Fin cfg2.N, win2_2.index t = ![0, 0] := (by decide +kernel : ∀ t : Fin grid2.N, win2_2.index t = ![0, 0])
theorem index2_3 : ∀ t : Fin cfg2.N, win2_3.index t = ![0, 0] := (by decide +kernel : ∀ t : Fin grid2.N, win2_3.index t = ![0, 0])

theorem read2_0 (t : Fin cfg2.N) : ((cfg2.win 0).blk t).view.read (Elt F) (V c main_v0_0) = V c main_v0_0 := by
  funext q
  show V c main_v0_0 (((cfg2.win 0).blk t).view.emb q) = _
  congr 1
  funext a
  apply Fin.ext
  have e := index2_0 t
  match a with
  | 0 =>
    blk_simp [e]
  | 1 =>
    blk_simp [e]
theorem read2_1 (t : Fin cfg2.N) : ((cfg2.win 1).blk t).view.read (Elt F) (V c main_v0_1) = V c main_v0_1 := by
  funext q
  show V c main_v0_1 (((cfg2.win 1).blk t).view.emb q) = _
  congr 1
  funext a
  apply Fin.ext
  have e := index2_1 t
  match a with
  | 0 =>
    blk_simp [e]
  | 1 =>
    blk_simp [e]
theorem read2_2 (t : Fin cfg2.N) : ((cfg2.win 2).blk t).view.read (Elt F) (V c main_v1_0) = V c main_v1_0 := by
  funext q
  show V c main_v1_0 (((cfg2.win 2).blk t).view.emb q) = _
  congr 1
  funext a
  apply Fin.ext
  have e := index2_2 t
  match a with
  | 0 =>
    blk_simp [e]
  | 1 =>
    blk_simp [e]
theorem read2_3 (t : Fin cfg2.N) : ((cfg2.win 3).blk t).view.read (Elt F) (V c main_v1_1) = V c main_v1_1 := by
  funext q
  show V c main_v1_1 (((cfg2.win 3).blk t).view.emb q) = _
  congr 1
  funext a
  apply Fin.ext
  have e := index2_3 t
  match a with
  | 0 =>
    blk_simp [e]
  | 1 =>
    blk_simp [e]

theorem mg_all (t : Fin cfg2.N) : R2.mg V c t = k2_pay1 (V c main_v0_0) (V c main_v0_1) (V c main_v1_0) (V c main_v1_1) := by
  unfold R2.mg
  rw [read2_0, read2_1, read2_2, read2_3]

variable (m : (ℓ : Loc nD τ sig) → Buf (Elt F) ℓ) (d : Dev nD)

theorem V3_pay : V3 m d main_v2 = k2_pay1 (vFin m d) (iFin m d) (R1.scr (V1 m) d 10).1 (R1.scr (V1 m) d 10).2 := by
  rw [V3_v2, arr2_4, mg_all, V2_ne m d main_v0_0 (by decide) (by decide), V2_ne m d main_v0_1 (by decide) (by decide), V1_v, V1_i, V2_v, V2_i, arr1_1, arr1_2]

theorem V1_x : V1 m d main_arg0 = m (xLoc d) := V1_ne m d _ (by decide) (by decide)

end Arrays

/-! ## Every index is some lane's -/

theorem cover (k : ℕ) (hk : k < N) :
    (∃ i : S32x16.Idx, ∃ n < 3072, k = 49152 * (wid (ptOf (i 0))).val + 16 * n + ((ix1 (i 1) : S16.Idx) 0).val) ∨ ∃ i : S16x128.Idx, ∃ n < 1280, k = R1.tcP i n := by
  have hN : N = 4194304 := rfl
  by_cases h : k < 1572864
  · refine .inl ⟨Shape.pair (d := ![32, 16]) ⟨k / 49152, by show _ < 32; omega⟩ ⟨k % 16, by show _ < 16; omega⟩, k % 49152 / 16, by omega, ?_⟩
    show k = 49152 * (wid (ptOf ⟨k / 49152, _⟩)).val + 16 * (k % 49152 / 16) + k % 16
    rw [wid_ptOf]
    show k = 49152 * (k / 49152) + 16 * (k % 49152 / 16) + k % 16
    omega
  · obtain ⟨j, rfl⟩ : ∃ j, k = 1572864 + j := ⟨k - 1572864, by omega⟩
    refine .inr ⟨Shape.pair (d := ![16, 128]) ⟨j % 524288 / 32768, by show _ < 16; omega⟩ ⟨j % 128, by show _ < 128; omega⟩,
      256 * (j / 524288) + 128 * (j % 32768 / 16384) + j % 16384 / 128, by omega, ?_⟩
    show 1572864 + j = 1572864 + (256 * (j / 524288) + 128 * (j % 32768 / 16384) + j % 16384 / 128) / 256 * 524288
      + (256 * (j / 524288) + 128 * (j % 32768 / 16384) + j % 16384 / 128) / 128 % 2 * 16384
      + (256 * (j / 524288) + 128 * (j % 32768 / 16384) + j % 16384 / 128) % 128 * 128 + j % 524288 / 32768 * 32768 + j % 128
    omega

/-- The program's result is the first index of the largest element. -/
theorem res_isRes (m : (ℓ : Loc nD τ sig) → Buf (Elt Ideal) ℓ) (d : Dev nD) (j : S_.Idx) : IsRes (xf (m (xLoc d))) (res m d j) := by
  have e : res m d j = k2_pay1 (F := Ideal) (vFin m d) (iFin m d) (R1.scr (V1 m) d 10).1 (R1.scr (V1 m) d 10).2 (Shape.reshapeEquiv shapeCasts_S1x1_S_ j) := by
    unfold res
    rw [V3_pay]
    rfl
  rw [e]
  refine pay_isRes (xf (m (xLoc d))) _ _ _ _ _ (fun i k => ∃ n < 3072, k = 49152 * (wid (ptOf (i 0))).val + 16 * n + ((ix1 (i 1) : S16.Idx) 0).val)
    (fun i k => ∃ n < 1280, k = R1.tcP i n) (fun i => sc_lane (m (xLoc d)) (ptOf (i 0)) (ix1 (i 1))) (fun i => ?_) cover
    (Shape.pair (d := ![32, 16]) ⟨0, by decide⟩ ⟨0, by decide⟩) (fun h => ?_) (Shape.pair (d := ![16, 128]) ⟨0, by decide⟩ ⟨0, by decide⟩)
  · have h := R1.tc_lane (V1 m) d i
    rw [V1_x] at h
    exact h
  · refine (sc_bot (m (xLoc d)) _ _ h).trans (BitVec.eq_of_toNat_eq ?_)
    refine (scR_toNat _ _ 0 (by omega)).trans ?_
    show 49152 * (wid (ptOf ⟨0, _⟩)).val + 16 * 0 + 0 = 0
    rw [wid_ptOf]
    rfl

end Cert.KernelIdeal.Pf
-- ==== Proof.lean ====
/-
  The certificate: the kernel's run (`Proof/Main.lean` at the idealized program, `Proof/Kern/Main.lean` at the
  program) and the reference's (`Proof/RefRun.lean`) give the three frames. Both results are the first index of
  the largest element (`Proof/Values.lean`, `Proof/RefVal.lean`), and there is one such index.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Main
public import proofs.«01_k».proof.Proof.Kern.Main
public import proofs.«01_k».proof.Proof.RefRun
public import proofs.«01_k».proof.Proof.RefVal
public import proofs.«01_k».proof.Proof.Values
public import Idealize.ShloMosaic.Adequacy
public import Idealize.ShloMosaic.Init

@[expose] public section

noncomputable section

namespace Cert.Proof

open Idealize.ShloMosaic Idealize.SL.Sem

theorem frame_kernel : Cert.quiescent_Kernel := fun m g _ =>
  (θ_run Cert.Kernel.defs _ _).mono (fun _ h => ⟨fun c => (h.1 c).1, h.2⟩) (Cert.Kernel.Pf.run_main m g)

theorem frame_ideal : Cert.quiescent_KernelIdeal := fun m g _ =>
  (θ_run Cert.KernelIdeal.defs _ _).mono (fun _ h => ⟨fun c => (h.1 c).1, h.2⟩) (Cert.KernelIdeal.Pf.run_main m g)

theorem frame_reference : Cert.quiescent_ReferenceIdeal := fun m g _ =>
  (θ_run Cert.ReferenceIdeal.defs _ _).mono (fun _ h => ⟨fun c => (h.1 c).2, h.2⟩) (Cert.ReferenceIdeal.Pf.run m g)

/-- The reference ends at the program's result. -/
theorem out_eq_res (m : (ℓ : Loc Cert.KernelIdeal.nD Cert.KernelIdeal.τ Cert.KernelIdeal.sig) → Buf (Elt Ideal) ℓ) (c : Dev Cert.KernelIdeal.nD) :
    Cert.ReferenceIdeal.Pf.out (F := Ideal) (m (Cert.KernelIdeal.Pf.xLoc c)) = Cert.KernelIdeal.Pf.res m c :=
  funext fun j => (Cert.ReferenceIdeal.Pf.out_isRes _ j).unique (Cert.KernelIdeal.Pf.res_isRes m c j)

theorem algebraic : Cert.algebraic_KernelIdeal_ReferenceIdeal := fun m g m' g' _ hx =>
  ⟨fun c => Cert.KernelIdeal.Pf.res m c,
    (θ_run Cert.KernelIdeal.defs _ _).mono (fun _ h c => ⟨(h.1 c).2, (h.1 c).1⟩) (Cert.KernelIdeal.Pf.run_main m g),
    (θ_run Cert.ReferenceIdeal.defs _ _).mono
      (fun _ h c => ⟨(h.1 c).1.trans ((congrArg (Cert.ReferenceIdeal.Pf.out (F := Ideal)) (hx c)).trans (out_eq_res m c)), (h.1 c).2⟩)
      (Cert.ReferenceIdeal.Pf.run m' g')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
